-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v48_0)) (v1 : (c : Dev Cert.InProjIdeal.nD) → Buf (Elt Ideal) ((c.tc : Thread Cert.InProjIdeal.nD Cert.InProjIdeal.τ).loc Cert.InProjIdeal.main_v48_1)) (v2 : (c : Dev Cert.InProjIdeal.nD) → Buf (Elt Ideal) ((c.tc : Thread Cert.InProjIdeal.nD Cert.InProjIdeal.τ).loc Cert.InProjIdeal.main_v48_2)) (v3 : (c : Dev Cert.InProjIdeal.nD) → Buf (Elt Ideal) ((c.tc : Thread Cert.InProjIdeal.nD Cert.InProjIdeal.τ).loc Cert.InProjIdeal.main_v48_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v48_0) = v0 c
          ∧ r.2.mem ((c.tc : Thread Cert.InProjIdeal.nD Cert.InProjIdeal.τ).loc Cert.InProjIdeal.main_v48_1) = v1 c
          ∧ r.2.mem ((c.tc : Thread Cert.InProjIdeal.nD Cert.InProjIdeal.τ).loc Cert.InProjIdeal.main_v48_2) = v2 c
          ∧ r.2.mem ((c.tc : Thread Cert.InProjIdeal.nD Cert.InProjIdeal.τ).loc Cert.InProjIdeal.main_v48_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v97) = v0 c
          ∧ r.2.mem ((c.tc : Thread Cert.InProjRefIdeal.nD Cert.InProjRefIdeal.τ).loc Cert.InProjRefIdeal.main_v98) = v1 c
          ∧ r.2.mem ((c.tc : Thread Cert.InProjRefIdeal.nD Cert.InProjRefIdeal.τ).loc Cert.InProjRefIdeal.main_v99) = v2 c
          ∧ r.2.mem ((c.tc : Thread Cert.InProjRefIdeal.nD Cert.InProjRefIdeal.τ).loc Cert.InProjRefIdeal.main_v88) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v13) = v0 c
          ∧ r.2.mem ((c.tc : Thread Cert.MemKvRefIdeal.nD Cert.MemKvRefIdeal.τ).loc Cert.MemKvRefIdeal.main_v14) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)) →
    ∃ (v0 : (c : Dev Cert.MidIdeal.nD) → Buf (Elt Ideal) ((c.tc : Thread Cert.MidIdeal.nD Cert.MidIdeal.τ).loc Cert.MidIdeal.main_v6_0)) (v1 : (c : Dev Cert.MidIdeal.nD) → Buf (Elt Ideal) ((c.tc : Thread Cert.MidIdeal.nD Cert.MidIdeal.τ).loc Cert.MidIdeal.main_v6_1)) (v2 : (c : Dev Cert.MidIdeal.nD) → Buf (Elt Ideal) ((c.tc : Thread Cert.MidIdeal.nD Cert.MidIdeal.τ).loc Cert.MidIdeal.main_v6_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v6_0) = v0 c
          ∧ r.2.mem ((c.tc : Thread Cert.MidIdeal.nD Cert.MidIdeal.τ).loc Cert.MidIdeal.main_v6_1) = v1 c
          ∧ r.2.mem ((c.tc : Thread Cert.MidIdeal.nD Cert.MidIdeal.τ).loc Cert.MidIdeal.main_v6_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v38) = v0 c
          ∧ r.2.mem ((c.tc : Thread Cert.MidRefIdeal.nD Cert.MidRefIdeal.τ).loc Cert.MidRefIdeal.main_v52) = v1 c
          ∧ r.2.mem ((c.tc : Thread Cert.MidRefIdeal.nD Cert.MidRefIdeal.τ).loc Cert.MidRefIdeal.main_v53) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hMid : Cert.Mid.Facts) (hMidIdeal : Cert.MidIdeal.Facts) (hMidRefIdeal : Cert.MidRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Mid (hMid := hMid)
    ∧ quiescent_MidIdeal (hMidIdeal := hMidIdeal)
    ∧ quiescent_MidRefIdeal (hMidRefIdeal := hMidRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_Mid_MidIdeal
    ∧ algebraic_MidIdeal_MidRefIdeal (hMidIdeal := hMidIdeal) (hMidRefIdeal := hMidRefIdeal)
-- ==== Pre_finite.lean ====
abbrev S16x2048x1024 : Shape := ⟨3, ![16, 2048, 1024]⟩
abbrev S16x2048x256 : Shape := ⟨3, ![16, 2048, 256]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  bcast_S_S16x2048x256 : S_.BroadcastsInDim S16x2048x256 (![] : Fin 0 → Fin S16x2048x256.rank)
  bcast_S_S16 : S_.BroadcastsInDim S16 (![] : Fin 0 → Fin S16.rank)

variable [Facts]

def fn {F : FTy → Type} [FloatOps F] (main_arg0 : FVec F S16x2048x1024 .f32) (main_arg1 : FVec F S16x2048x256 .f32) (main_arg2 : FVec F S16x2048x256 .f32) (main_arg3 : FVec F S16 .f32) : IVec S16x2048x1024 1 × IVec S16x2048x256 1 × IVec S16 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x256 .f32 := Host.absf main_arg1
  let main_cst_0 : FVec F S_ .f32 := constant S_ .f32 0x7F800000#32
  let main_v4 : FVec F S16x2048x256 .f32 := broadcastInDim S16x2048x256 ![] bcast_S_S16x2048x256 main_cst_0
  let main_v5 : IVec S16x2048x256 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Attn.lean ====
abbrev S16x2048x1024 : Shape := ⟨3, ![16, 2048, 1024]⟩
abbrev S16x2048x256 : Shape := ⟨3, ![16, 2048, 256]⟩
abbrev S16 : Shape := ⟨1, ![16]⟩
abbrev S1x128x1024 : Shape := ⟨3, ![1, 128, 1024]⟩
abbrev S1x64x256 : Shape := ⟨3, ![1, 64, 256]⟩
abbrev S128x1024 : Shape := ⟨2, ![128, 1024]⟩
abbrev S64x256 : Shape := ⟨2, ![64, 256]⟩
abbrev S256x256 : Shape := ⟨2, ![256, 256]⟩
abbrev S256x128 : Shape := ⟨2, ![256, 128]⟩
abbrev S256x64 : Shape := ⟨2, ![256, 64]⟩
abbrev S128x128 : Shape := ⟨2, ![128, 128]⟩
abbrev S1 : Shape := ⟨1, ![1]⟩
abbrev S128 : Shape := ⟨1, ![128]⟩
abbrev S1x128 : Shape := ⟨2, ![1, 128]⟩
abbrev S1x128x128 : Shape := ⟨3, ![1, 128, 128]⟩

abbrev nBuf : Space → Nat
  | .hbm => 5
  | .vmem => 20
  | .smem => 1
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16, .f32⟩
  | .hbm, ⟨4, _⟩ => ⟨S16x2048x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x64x256, .f32⟩
  | .local _ .vmem, ⟨3, _⟩ => ⟨S1x64x256, .f32⟩
  | .local _ .vmem, ⟨4, _⟩ => ⟨S1x64x256, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | .local _ .vmem, ⟨10, _⟩ => ⟨S1x64x256, .f32⟩
  | .local _ .vmem, ⟨11, _⟩ => ⟨S1x64x256, .f32⟩
  | .local _ .vmem, ⟨12, _⟩ => ⟨S1x64x256, .f32⟩
  | .local _ .vmem, ⟨13, _⟩ => ⟨S1x64x256, .f32⟩
  | .local _ .vmem, ⟨14, _⟩ => ⟨S1x64x256, .f32⟩
  | .local _ .vmem, ⟨15, _⟩ => ⟨S1x64x256, .f32⟩
  | .local _ .vmem, ⟨16, _⟩ => ⟨S1x64x256, .f32⟩
  | .local _ .vmem, ⟨17, _⟩ => ⟨S1x64x256, .f32⟩
  | .local _ .vmem, ⟨18, _⟩ => ⟨S1x128x1024, .f32⟩
  | .local _ .vmem, ⟨19, _⟩ => ⟨S1x128x1024, .f32⟩
  | .local _ .smem, ⟨0, _⟩ => ⟨S16, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c2_i32_0 : BitVec 32 := 2#32
  let v2 : BitVec 32 := Scalar.subi v1 c2_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c2_i32_1 : BitVec 32 := 2#32
  let v2 : BitVec 32 := Scalar.subi v1 c2_i32_1
  let c0_i32 : BitVec 32 := 0#32
  let v3 : BitVec 32 := Scalar.maxsi v2 c0_i32
  let c0_i32_2 : BitVec 32 := 0#32
  let c0_i32_3 : BitVec 32 := 0#32
  ![arg0.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c2_i32_0 : BitVec 32 := 2#32
  let v2 : BitVec 32 := Scalar.subi v1 c2_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c2_i32_1 : BitVec 32 := 2#32
  let v2 : BitVec 32 := Scalar.subi v1 c2_i32_1
  let c0_i32 : BitVec 32 := 0#32
  let v3 : BitVec 32 := Scalar.maxsi v2 c0_i32
  let c0_i32_2 : BitVec 32 := 0#32
  let c0_i32_3 : BitVec 32 := 0#32
  ![arg0.toNat, v3.toNat, c0_i32_2.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c3_i32 : BitVec 32 := 3#32
  let v1 : BitVec 32 := Scalar.addi v0 c3_i32
  let c2_i32_0 : BitVec 32 := 2#32
  let v2 : BitVec 32 := Scalar.subi v1 c2_i32_0
  let c0_i32 : BitVec 32 := 0#32
  let v3 : BitVec 32 := Scalar.maxsi v2 c0_i32
  let c0_i32_1 : BitVec 32 := 0#32
  let c0_i32_2 : BitVec 32 := 0#32
  ![arg0.toNat, v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16x2048x1024 : Shape := ⟨3, ![16, 2048, 1024]⟩
abbrev S16x2048x256 : Shape := ⟨3, ![16, 2048, 256]⟩
abbrev S16 : Shape := ⟨1, ![16]⟩
abbrev S16x2048x16x64 : Shape := ⟨4, ![16, 2048, 16, 64]⟩
abbrev S16x2048x4x64 : Shape := ⟨4, ![16, 2048, 4, 64]⟩
abbrev S16x32x64x16x64 : Shape := ⟨5, ![16, 32, 64, 16, 64]⟩
abbrev S16x32x64x4x64 : Shape := ⟨5, ![16, 32, 64, 4, 64]⟩
abbrev S_ : Shape := ⟨0, ![]⟩
abbrev S16x34x64x4x64 : Shape := ⟨5, ![16, 34, 64, 4, 64]⟩
abbrev S16x32x192x4x64 : Shape := ⟨5, ![16, 32, 192, 4, 64]⟩
abbrev S3 : Shape := ⟨1, ![3]⟩
abbrev S3x64 : Shape := ⟨2, ![3, 64]⟩
abbrev S192 : Shape := ⟨1, ![192]⟩
abbrev S32 : Shape := ⟨1, ![32]⟩
abbrev S32x1 : Shape := ⟨2, ![32, 1]⟩
abbrev S1x192 : Shape := ⟨2, ![1, 192]⟩
abbrev S32x192 : Shape := ⟨2, ![32, 192]⟩
abbrev S1x32x1x1x1x192 : Shape := ⟨6, ![1, 32, 1, 1, 1, 192]⟩
abbrev S16x32x64x4x4x64 : Shape := ⟨6, ![16, 32, 64, 4, 4, 64]⟩
abbrev S16x32x4x192x64x4 : Shape := ⟨6, ![16, 32, 4, 192, 64, 4]⟩
abbrev S16x32x4x4x64x192 : Shape := ⟨6, ![16, 32, 4, 4, 64, 192]⟩
abbrev S4x4x1x1 : Shape := ⟨4, ![4, 4, 1, 1]⟩
abbrev S16x32x4x4x64x1 : Shape := ⟨6, ![16, 32, 4, 4, 64, 1]⟩
abbrev S16x32x4x4x64x193 : Shape := ⟨6, ![16, 32, 4, 4, 64, 193]⟩
abbrev S16x32x4x4x64 : Shape := ⟨5, ![16, 32, 4, 4, 64]⟩
abbrev S16x32x4x64x4x64 : Shape := ⟨6, ![16, 32, 4, 64, 4, 64]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16, .f32⟩
  | .hbm, ⟨4, _⟩ => ⟨S16x2048x16x64, .f32⟩
  | .hbm, ⟨5, _⟩ => ⟨S16x2048x4x64, .f32⟩
  | .hbm, ⟨6, _⟩ => ⟨S16x2048x4x64, .f32⟩
  | .hbm, ⟨7, _⟩ => ⟨S16x32x64x16x64, .f32⟩
  | .hbm, ⟨8, _⟩ => ⟨S16x32x64x4x64, .f32⟩
  | .hbm, ⟨9, _⟩ => ⟨S_, .i32⟩
  | .hbm, ⟨10, _⟩ => ⟨S_, .f32⟩
  | .hbm, ⟨11, _⟩ => ⟨S16x34x64x4x64, .f32⟩
  | .hbm, ⟨12, _⟩ => ⟨S16x32x64x4x64, .f32⟩
  | .hbm, ⟨13, _⟩ => ⟨S16x32x64x4x64, .f32⟩
  | .hbm, ⟨14, _⟩ => ⟨S16x32x64x4x64, .f32⟩
  | .hbm, ⟨15, _⟩ => ⟨S16x32x192x4x64, .f32⟩
  | .hbm, ⟨16, _⟩ => ⟨S16x32x64x4x64, .f32⟩
  | .hbm, ⟨17, _⟩ => ⟨S_, .i32⟩
  | .hbm, ⟨18, _⟩ => ⟨S_, .f32⟩
  | .hbm, ⟨19, _⟩ => ⟨S16x34x64x4x64, .f32⟩
  | .hbm, ⟨20, _⟩ => ⟨S16x32x64x4x64, .f32⟩
  | .hbm, ⟨21, _⟩ => ⟨S16x32x64x4x64, .f32⟩
  | .hbm, ⟨22, _⟩ => ⟨S16x32x64x4x64, .f32⟩
  | .hbm, ⟨23, _⟩ => ⟨S16x32x192x4x64, .f32⟩
  | .hbm, ⟨24, _⟩ => ⟨S3, .i32⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S3x64, .i32⟩
  | .hbm, ⟨29, _⟩ => ⟨S192, .i32⟩
  | .hbm, ⟨30, _⟩ => ⟨S32, .i32⟩
  | .hbm, ⟨31, _⟩ => ⟨S32x1, .i32⟩
  | .hbm, ⟨32, _⟩ => ⟨S1x192, .i32⟩
  | .hbm, ⟨33, _⟩ => ⟨S32x192, .i32⟩
  | .hbm, ⟨34, _⟩ => ⟨S32x192, .i32⟩
  | .hbm, ⟨35, _⟩ => ⟨S32x192, .i32⟩
  | .hbm, ⟨36, _⟩ => ⟨S_, .i32⟩
  | .hbm, ⟨37, _⟩ => ⟨S32x192, .i32⟩
  | .hbm, ⟨38, _⟩ => ⟨S32x192, .i1⟩
  | .hbm, ⟨39, _⟩ => ⟨S1x32x1x1x1x192, .i1⟩
  | .hbm, ⟨40, _⟩ => ⟨S16x32x64x4x4x64, .f32⟩
  | .hbm, ⟨41, _⟩ => ⟨S16x32x4x192x64x4, .f32⟩
  | .hbm, ⟨42, _⟩ => ⟨S16x32x4x4x64x192, .f32⟩
  | .hbm, ⟨43, _⟩ => ⟨S_, .f32⟩
  | .hbm, ⟨44, _⟩ => ⟨S16x32x4x4x64x192, .f32⟩
  | .hbm, ⟨45, _⟩ => ⟨S16x32x4x4x64x192, .f32⟩
  | .hbm, ⟨46, _⟩ => ⟨S_, .f32⟩
  | .hbm, ⟨47, _⟩ => ⟨S_, .f32⟩
  | .hbm, ⟨48, _⟩ => ⟨S16x32x4x4x64x192, .i1⟩
  | .hbm, ⟨49, _⟩ => ⟨S16x32x4x4x64x192, .f32⟩
  | .hbm, ⟨50, _⟩ => ⟨S16x32x4x4x64x192, .f32⟩
  | .hbm, ⟨51, _⟩ => ⟨S4x4x1x1, .f32⟩
  | .hbm, ⟨52, _⟩ => ⟨S16x32x4x4x64x1, .f32⟩
  | .hbm, ⟨53, _⟩ => ⟨S16x32x4x4x64x193, .f32⟩
  | .hbm, ⟨54, _⟩ => ⟨S_, .f32⟩
  | .hbm, ⟨55, _⟩ => ⟨S16x32x4x4x64, .f32⟩
  | .hbm, ⟨56, _⟩ => ⟨S_, .f32⟩
  | .hbm, ⟨57, _⟩ => ⟨S16x32x4x4x64, .f32⟩
  | .hbm, ⟨58, _⟩ => ⟨S16x32x4x4x64, .f32⟩
  | .hbm, ⟨59, _⟩ => ⟨S16x32x4x4x64x1, .f32⟩
  | .hbm, ⟨60, _⟩ => ⟨S16x32x4x4x64x193, .f32⟩
  | .hbm, ⟨61, _⟩ => ⟨S16x32x4x4x64x193, .f32⟩
  | .hbm, ⟨62, _⟩ => ⟨S16x32x4x4x64x193, .f32⟩
  | .hbm, ⟨63, _⟩ => ⟨S_, .f32⟩
  | .hbm, ⟨64, _⟩ => ⟨S16x32x4x4x64, .f32⟩
  | .hbm, ⟨65, _⟩ => ⟨S16x32x4x4x64x1, .f32⟩
  | .hbm, ⟨66, _⟩ => ⟨S16x32x4x4x64x193, .f32⟩
  | .hbm, ⟨67, _⟩ => ⟨S16x32x4x4x64x193, .f32⟩
  | .hbm, ⟨68, _⟩ => ⟨S16x32x4x4x64x192, .f32⟩
  | .hbm, ⟨69, _⟩ => ⟨S16x32x4x64x4x64, .f32⟩
  | .hbm, ⟨70, _⟩ => ⟨S16x32x64x4x4x64, .f32⟩
  | .hbm, ⟨71, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== InProj.lean ====
abbrev S16x2048x2048 : Shape := ⟨3, ![16, 2048, 2048]⟩
abbrev S2048 : Shape := ⟨1, ![2048]⟩
abbrev S2048x3584 : Shape := ⟨2, ![2048, 3584]⟩
abbrev S_ : Shape := ⟨0, ![]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S128 : Shape := ⟨1, ![128]⟩
abbrev S128x1 : Shape := ⟨2, ![128, 1]⟩
abbrev S2048x128 : Shape := ⟨2, ![2048, 128]⟩
abbrev S1x128 : Shape := ⟨2, ![1, 128]⟩
abbrev S1x2048 : Shape := ⟨2, ![1, 2048]⟩
abbrev S16x2048x1024 : Shape := ⟨3, ![16, 2048, 1024]⟩
abbrev S16x2048x256 : Shape := ⟨3, ![16, 2048, 256]⟩
abbrev S1x256x2048 : Shape := ⟨3, ![1, 256, 2048]⟩
abbrev S256x128 : Shape := ⟨2, ![256, 128]⟩
abbrev S1x256x1024 : Shape := ⟨3, ![1, 256, 1024]⟩
abbrev S1x256x256 : Shape := ⟨3, ![1, 256, 256]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S1x256x128 : Shape := ⟨3, ![1, 256, 128]⟩

abbrev nBuf : Space → Nat
  | .hbm => 119
  | .vmem => 18
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x3584, .f32⟩
  | .hbm, ⟨3, _⟩ => ⟨S2048x3584, .bf16⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S128, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S_, .i1⟩
  | .hbm, ⟨42, _⟩ => ⟨S128, .i1⟩
  | .hbm, ⟨43, _⟩ => ⟨S128, .i1⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S_, .i1⟩
  | .hbm, ⟨64, _⟩ => ⟨S128, .i1⟩
  | .hbm, ⟨65, _⟩ => ⟨S128, .i1⟩
  | .hbm, ⟨66, _⟩ => ⟨S128, .i1⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i1⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S128, .i32⟩
  | .hbm, ⟨77, _⟩ => ⟨S128x1, .i32⟩
  | .hbm, ⟨78, _⟩ => ⟨S2048x128, .f32⟩
  | .hbm, ⟨79, _⟩ => ⟨S1x128, .i32⟩
  | .hbm, ⟨80, _⟩ => ⟨S_, .i32⟩
  | .hbm, ⟨81, _⟩ => ⟨S1x128, .i32⟩
  | .hbm, ⟨82, _⟩ => ⟨S1x128, .i1⟩
  | .hbm, ⟨83, _⟩ => ⟨S2048x128, .f32⟩
  | .hbm, ⟨84, _⟩ => ⟨S_, .f32⟩
  | .hbm, ⟨85, _⟩ => ⟨S_, .f32⟩
  | .hbm, ⟨86, _⟩ => ⟨S2048x128, .i1⟩
  | .hbm, ⟨87, _⟩ => ⟨S2048x128, .f32⟩
  | .hbm, ⟨88, _⟩ => ⟨S2048x128, .f32⟩
  | .hbm, ⟨89, _⟩ => ⟨S2048x128, .f32⟩
  | .hbm, ⟨90, _⟩ => ⟨S1x128, .i32⟩
  | .hbm, ⟨91, _⟩ => ⟨S_, .i32⟩
  | .hbm, ⟨92, _⟩ => ⟨S1x128, .i32⟩
  | .hbm, ⟨93, _⟩ => ⟨S1x128, .i1⟩
  | .hbm, ⟨94, _⟩ => ⟨S1x128, .i32⟩
  | .hbm, ⟨95, _⟩ => ⟨S_, .i32⟩
  | .hbm, ⟨96, _⟩ => ⟨S1x128, .i32⟩
  | .hbm, ⟨97, _⟩ => ⟨S1x128, .i1⟩
  | .hbm, ⟨98, _⟩ => ⟨S1x128, .i1⟩
  | .hbm, ⟨99, _⟩ => ⟨S_, .f32⟩
  | .hbm, ⟨100, _⟩ => ⟨S_, .f32⟩
  | .hbm, ⟨101, _⟩ => ⟨S2048x128, .i1⟩
  | .hbm, ⟨102, _⟩ => ⟨S2048x128, .f32⟩
  | .hbm, ⟨103, _⟩ => ⟨S2048x128, .f32⟩
  | .hbm, ⟨104, _⟩ => ⟨S1x128, .i32⟩
  | .hbm, ⟨105, _⟩ => ⟨S_, .i32⟩
  | .hbm, ⟨106, _⟩ => ⟨S1x128, .i32⟩
  | .hbm, ⟨107, _⟩ => ⟨S1x128, .i1⟩
  | .hbm, ⟨108, _⟩ => ⟨S2048x128, .f32⟩
  | .hbm, ⟨109, _⟩ => ⟨S_, .f32⟩
  | .hbm, ⟨110, _⟩ => ⟨S_, .f32⟩
  | .hbm, ⟨111, _⟩ => ⟨S2048x128, .i1⟩
  | .hbm, ⟨112, _⟩ => ⟨S2048x128, .f32⟩
  | .hbm, ⟨113, _⟩ => ⟨S2048x128, .f32⟩
  | .hbm, ⟨114, _⟩ => ⟨S1x2048, .f32⟩
  | .hbm, ⟨115, _⟩ => ⟨S16x2048x1024, .f32⟩
  | .hbm, ⟨116, _⟩ => ⟨S16x2048x1024, .f32⟩
  | .hbm, ⟨117, _⟩ => ⟨S16x2048x256, .f32⟩
  | .hbm, ⟨118, _⟩ => ⟨S16x2048x256, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x3584, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v19 : Ref sig .tc := ⟨.hbm, 47, rfl⟩
abbrev main_c_3 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v20 : Ref sig .tc := ⟨.hbm, 69, rfl⟩
abbrev main_c_4 : Ref sig .tc := ⟨.hbm, 70, rfl⟩
abbrev main_v21 : Ref sig .tc := ⟨.hbm, 71, rfl⟩
abbrev main_v22 : Ref sig .tc := ⟨.hbm, 72, rfl⟩
abbrev main_c_5 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_c_6 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_7 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_c_8 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_c_9 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v41 : Ref sig .tc := ⟨.hbm, 103, rfl⟩
abbrev main_v42 : Ref sig .tc := ⟨.hbm, 104, rfl⟩
abbrev main_c_11 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_12 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v46 : Ref sig .tc := ⟨.hbm, 113, rfl⟩
abbrev main_v47 : Ref sig .tc := ⟨.hbm, 114, rfl⟩
abbrev main_v48_0 : Ref sig .tc := ⟨.hbm, 115, rfl⟩
abbrev main_v48_1 : Ref sig .tc := ⟨.hbm, 116, rfl⟩
abbrev main_v48_2 : Ref sig .tc := ⟨.hbm, 117, rfl⟩
abbrev main_v48_3 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S16x2048x2048 : Shape := ⟨3, ![16, 2048, 2048]⟩
abbrev S2048 : Shape := ⟨1, ![2048]⟩
abbrev S2048x3584 : Shape := ⟨2, ![2048, 3584]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x3584 : Shape := ⟨3, ![16, 2048, 3584]⟩
abbrev S16x2048x1024 : Shape := ⟨3, ![16, 2048, 1024]⟩
abbrev S16x2048x16x64 : Shape := ⟨4, ![16, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x16x16 : Shape := ⟨4, ![16, 2048, 16, 16]⟩
abbrev S16x2048x16x8 : Shape := ⟨4, ![16, 2048, 16, 8]⟩
abbrev S16x2048x16x48 : Shape := ⟨4, ![16, 2048, 16, 48]⟩
abbrev S16x2048x256 : Shape := ⟨3, ![16, 2048, 256]⟩
abbrev S16x2048x4x64 : Shape := ⟨4, ![16, 2048, 4, 64]⟩
abbrev S16x2048x4x16 : Shape := ⟨4, ![16, 2048, 4, 16]⟩
abbrev S16x2048x4x8 : Shape := ⟨4, ![16, 2048, 4, 8]⟩
abbrev S16x2048x4x48 : Shape := ⟨4, ![16, 2048, 4, 48]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x3584, .f32⟩
  | .hbm, ⟨3, _⟩ => ⟨S2048, .i32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S16x2048x3584, .f32⟩
  | .hbm, ⟨21, _⟩ => ⟨S16x2048x2048, .f32⟩
  | .hbm, ⟨22, _⟩ => ⟨S16x2048x1024, .f32⟩
  | .hbm, ⟨23, _⟩ => ⟨S16x2048x16x64, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S2048, .f32⟩
  | .hbm, ⟨36, _⟩ => ⟨S2048x1, .f32⟩
  | .hbm, ⟨37, _⟩ => ⟨S1x8, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S1x2048x1x8, .f32⟩
  | .hbm, ⟨43, _⟩ => ⟨S2048x8, .f32⟩
  | .hbm, ⟨44, _⟩ => ⟨S1x2048x1x8, .f32⟩
  | .hbm, ⟨45, _⟩ => ⟨S16x2048x16x16, .f32⟩
  | .hbm, ⟨46, _⟩ => ⟨S16x2048x16x8, .f32⟩
  | .hbm, ⟨47, _⟩ => ⟨S16x2048x16x8, .f32⟩
  | .hbm, ⟨48, _⟩ => ⟨S16x2048x16x8, .f32⟩
  | .hbm, ⟨49, _⟩ => ⟨S16x2048x16x8, .f32⟩
  | .hbm, ⟨50, _⟩ => ⟨S16x2048x16x8, .f32⟩
  | .hbm, ⟨51, _⟩ => ⟨S16x2048x16x8, .f32⟩
  | .hbm, ⟨52, _⟩ => ⟨S16x2048x16x8, .f32⟩
  | .hbm, ⟨53, _⟩ => ⟨S16x2048x16x8, .f32⟩
  | .hbm, ⟨54, _⟩ => ⟨S16x2048x16x8, .f32⟩
  | .hbm, ⟨55, _⟩ => ⟨S16x2048x16x8, .f32⟩
  | .hbm, ⟨56, _⟩ => ⟨S16x2048x16x8, .f32⟩
  | .hbm, ⟨57, _⟩ => ⟨S16x2048x16x8, .f32⟩
  | .hbm, ⟨58, _⟩ => ⟨S16x2048x16x16, .f32⟩
  | .hbm, ⟨59, _⟩ => ⟨S16x2048x16x48, .f32⟩
  | .hbm, ⟨60, _⟩ => ⟨S16x2048x16x64, .f32⟩
  | .hbm, ⟨61, _⟩ => ⟨S16x2048x256, .f32⟩
  | .hbm, ⟨62, _⟩ => ⟨S16x2048x4x64, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S2048, .f32⟩
  | .hbm, ⟨75, _⟩ => ⟨S2048x1, .f32⟩
  | .hbm, ⟨76, _⟩ => ⟨S1x8, .f32⟩
  | .hbm, ⟨77, _⟩ => ⟨S2048x8, .f32⟩
  | .hbm, ⟨78, _⟩ => ⟨S2048x8, .f32⟩
  | .hbm, ⟨79, _⟩ => ⟨S2048x8, .f32⟩
  | .hbm, ⟨80, _⟩ => ⟨S2048x8, .f32⟩
  | .hbm, ⟨81, _⟩ => ⟨S1x2048x1x8, .f32⟩
  | .hbm, ⟨82, _⟩ => ⟨S2048x8, .f32⟩
  | .hbm, ⟨83, _⟩ => ⟨S1x2048x1x8, .f32⟩
  | .hbm, ⟨84, _⟩ => ⟨S16x2048x4x16, .f32⟩
  | .hbm, ⟨85, _⟩ => ⟨S16x2048x4x8, .f32⟩
  | .hbm, ⟨86, _⟩ => ⟨S16x2048x4x8, .f32⟩
  | .hbm, ⟨87, _⟩ => ⟨S16x2048x4x8, .f32⟩
  | .hbm, ⟨88, _⟩ => ⟨S16x2048x4x8, .f32⟩
  | .hbm, ⟨89, _⟩ => ⟨S16x2048x4x8, .f32⟩
  | .hbm, ⟨90, _⟩ => ⟨S16x2048x4x8, .f32⟩
  | .hbm, ⟨91, _⟩ => ⟨S16x2048x4x8, .f32⟩
  | .hbm, ⟨92, _⟩ => ⟨S16x2048x4x8, .f32⟩
  | .hbm, ⟨93, _⟩ => ⟨S16x2048x4x8, .f32⟩
  | .hbm, ⟨94, _⟩ => ⟨S16x2048x4x8, .f32⟩
  | .hbm, ⟨95, _⟩ => ⟨S16x2048x4x8, .f32⟩
  | .hbm, ⟨96, _⟩ => ⟨S16x2048x4x8, .f32⟩
  | .hbm, ⟨97, _⟩ => ⟨S16x2048x4x16, .f32⟩
  | .hbm, ⟨98, _⟩ => ⟨S16x2048x4x48, .f32⟩
  | .hbm, ⟨99, _⟩ => ⟨S16x2048x4x64, .f32⟩
  | .hbm, ⟨100, _⟩ => ⟨S16x2048x256, .f32⟩
  | .hbm, ⟨101, _⟩ => ⟨S16x2048x1024, .f32⟩
  | .hbm, ⟨102, _⟩ => ⟨S16x2048x1024, .f32⟩
  | .hbm, ⟨103, _⟩ => ⟨S16x2048x1024, .f32⟩
  | .hbm, ⟨104, _⟩ => ⟨S16x2048x1024, .f32⟩
  | .hbm, ⟨105, _⟩ => ⟨S_, .f32⟩
  | .hbm, ⟨106, _⟩ => ⟨S16x2048x1024, .f32⟩
  | .hbm, ⟨107, _⟩ => ⟨S16x2048x1024, .f32⟩
  | .hbm, ⟨108, _⟩ => ⟨S_, .f32⟩
  | .hbm, ⟨109, _⟩ => ⟨S16x2048x1024, .f32⟩
  | .hbm, ⟨110, _⟩ => ⟨S16x2048x1024, .f32⟩
  | .hbm, ⟨111, _⟩ => ⟨S16x2048x1024, .f32⟩
  | .hbm, ⟨112, _⟩ => ⟨S16x2048x1024, .f32⟩
  | .hbm, ⟨113, _⟩ => ⟨S16x2048x256, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_cst_9 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩

abbrev nD : Nat := 1
abbrev τ : Topo := Topo.v7x

variable {F : FTy → Type} [FloatOps F]
-- ==== MemKv.lean ====
abbrev S16x256x2048 : Shape := ⟨3, ![16, 256, 2048]⟩
abbrev S2048 : Shape := ⟨1, ![2048]⟩
abbrev S2048x512 : Shape := ⟨2, ![2048, 512]⟩
abbrev S1x2048 : Shape := ⟨2, ![1, 2048]⟩
abbrev S16x256x512 : Shape := ⟨3, ![16, 256, 512]⟩
abbrev S1x256x2048 : Shape := ⟨3, ![1, 256, 2048]⟩
abbrev S1x256x512 : Shape := ⟨3, ![1, 256, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S2048x512, .bf16⟩
  | .hbm, ⟨5, _⟩ => ⟨S2048x512, .bf16⟩
  | .hbm, ⟨6, _⟩ => ⟨S1x2048, .f32⟩
  | .hbm, ⟨7, _⟩ => ⟨S16x256x512, .f32⟩
  | .hbm, ⟨8, _⟩ => ⟨S16x256x512, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S16x256x2048 : Shape := ⟨3, ![16, 256, 2048]⟩
abbrev S2048 : Shape := ⟨1, ![2048]⟩
abbrev S2048x512 : Shape := ⟨2, ![2048, 512]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S16x256x512 : Shape := ⟨3, ![16, 256, 512]⟩

abbrev nBuf : Space → Nat
  | .hbm => 22
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | .hbm, ⟨20, _⟩ => ⟨S16x256x512, .f32⟩
  | .hbm, ⟨21, _⟩ => ⟨S16x256x512, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Mid.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S2048 : Shape := ⟨1, ![2048]⟩
abbrev S2048x512 : Shape := ⟨2, ![2048, 512]⟩
abbrev S16x256x512 : Shape := ⟨3, ![16, 256, 512]⟩
abbrev S512x2048 : Shape := ⟨2, ![512, 2048]⟩
abbrev S1x2048 : Shape := ⟨2, ![1, 2048]⟩
abbrev S1x256x2048 : Shape := ⟨3, ![1, 256, 2048]⟩
abbrev S1x256x1024 : Shape := ⟨3, ![1, 256, 1024]⟩
abbrev S1x256x512 : Shape := ⟨3, ![1, 256, 512]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩

abbrev nBuf : Space → Nat
  | .hbm => 20
  | .vmem => 22
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S2048x2048, .f32⟩
  | .hbm, ⟨4, _⟩ => ⟨S2048, .f32⟩
  | .hbm, ⟨5, _⟩ => ⟨S2048x512, .f32⟩
  | .hbm, ⟨6, _⟩ => ⟨S16x256x512, .f32⟩
  | .hbm, ⟨7, _⟩ => ⟨S16x256x512, .f32⟩
  | .hbm, ⟨8, _⟩ => ⟨S512x2048, .f32⟩
  | .hbm, ⟨9, _⟩ => ⟨S2048, .f32⟩
  | .hbm, ⟨10, _⟩ => ⟨S2048x2048, .f32⟩
  | .hbm, ⟨11, _⟩ => ⟨S2048x2048, .bf16⟩
  | .hbm, ⟨12, _⟩ => ⟨S2048x512, .bf16⟩
  | .hbm, ⟨13, _⟩ => ⟨S512x2048, .bf16⟩
  | .hbm, ⟨14, _⟩ => ⟨S2048x2048, .bf16⟩
  | .hbm, ⟨15, _⟩ => ⟨S1x2048, .f32⟩
  | .hbm, ⟨16, _⟩ => ⟨S1x2048, .f32⟩
  | .hbm, ⟨17, _⟩ => ⟨S16x2048x2048, .f32⟩
  | .hbm, ⟨18, _⟩ => ⟨S16x2048x2048, .bf16⟩
  | .hbm, ⟨19, _⟩ => ⟨S16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S512x2048, .bf16⟩
  | .local _ .vmem, ⟨14, _⟩ => ⟨S1x2048, .f32⟩
  | .local _ .vmem, ⟨15, _⟩ => ⟨S2048x2048, .bf16⟩
  | .local _ .vmem, ⟨16, _⟩ => ⟨S1x256x2048, .f32⟩
  | .local _ .vmem, ⟨17, _⟩ => ⟨S1x256x2048, .f32⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .f32⟩
  | .local _ .vmem, ⟨21, _⟩ => ⟨S1x256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MidRefIdeal.lean ====
abbrev S16x2048x2048 : Shape := ⟨3, ![16, 2048, 2048]⟩
abbrev S16x2048x1024 : Shape := ⟨3, ![16, 2048, 1024]⟩
abbrev S2048x2048 : Shape := ⟨2, ![2048, 2048]⟩
abbrev S2048 : Shape := ⟨1, ![2048]⟩
abbrev S2048x512 : Shape := ⟨2, ![2048, 512]⟩
abbrev S16x256x512 : Shape := ⟨3, ![16, 256, 512]⟩
abbrev S512x2048 : Shape := ⟨2, ![512, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x256x4x128 : Shape := ⟨4, ![16, 256, 4, 128]⟩
abbrev S16x2048x512 : Shape := ⟨3, ![16, 2048, 512]⟩
abbrev S16x2048x4x128 : Shape := ⟨4, ![16, 2048, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .hbm, ⟨3, _⟩ => ⟨S2048x2048, .f32⟩
  | .hbm, ⟨4, _⟩ => ⟨S2048, .f32⟩
  | .hbm, ⟨5, _⟩ => ⟨S2048x512, .f32⟩
  | .hbm, ⟨6, _⟩ => ⟨S16x256x512, .f32⟩
  | .hbm, ⟨7, _⟩ => ⟨S16x256x512, .f32⟩
  | .hbm, ⟨8, _⟩ => ⟨S512x2048, .f32⟩
  | .hbm, ⟨9, _⟩ => ⟨S2048, .f32⟩
  | .hbm, ⟨10, _⟩ => ⟨S2048x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S1x1x2048, .f32⟩
  | .hbm, ⟨28, _⟩ => ⟨S16x2048x2048, .f32⟩
  | .hbm, ⟨29, _⟩ => ⟨S16x2048x2048, .f32⟩
  | .hbm, ⟨30, _⟩ => ⟨S16x256x4x128, .f32⟩
  | .hbm, ⟨31, _⟩ => ⟨S16x256x4x128, .f32⟩
  | .hbm, ⟨32, _⟩ => ⟨S16x2048x512, .f32⟩
  | .hbm, ⟨33, _⟩ => ⟨S16x2048x4x128, .f32⟩
  | .hbm, ⟨34, _⟩ => ⟨S16x4x2048x256, .f32⟩
  | .hbm, ⟨35, _⟩ => ⟨S_, .f32⟩
  | .hbm, ⟨36, _⟩ => ⟨S16x4x2048x256, .f32⟩
  | .hbm, ⟨37, _⟩ => ⟨S16x4x2048x256, .f32⟩
  | .hbm, ⟨38, _⟩ => ⟨S_, .f32⟩
  | .hbm, ⟨39, _⟩ => ⟨S16x4x2048, .f32⟩
  | .hbm, ⟨40, _⟩ => ⟨S_, .f32⟩
  | .hbm, ⟨41, _⟩ => ⟨S16x4x2048, .f32⟩
  | .hbm, ⟨42, _⟩ => ⟨S16x4x2048, .f32⟩
  | .hbm, ⟨43, _⟩ => ⟨S16x4x2048x1, .f32⟩
  | .hbm, ⟨44, _⟩ => ⟨S16x4x2048x256, .f32⟩
  | .hbm, ⟨45, _⟩ => ⟨S16x4x2048x256, .f32⟩
  | .hbm, ⟨46, _⟩ => ⟨S16x4x2048x256, .f32⟩
  | .hbm, ⟨47, _⟩ => ⟨S_, .f32⟩
  | .hbm, ⟨48, _⟩ => ⟨S16x4x2048, .f32⟩
  | .hbm, ⟨49, _⟩ => ⟨S16x4x2048x1, .f32⟩
  | .hbm, ⟨50, _⟩ => ⟨S16x4x2048x256, .f32⟩
  | .hbm, ⟨51, _⟩ => ⟨S16x4x2048x256, .f32⟩
  | .hbm, ⟨52, _⟩ => ⟨S16x4x128x2048, .f32⟩
  | .hbm, ⟨53, _⟩ => ⟨S16x2048x4x128, .f32⟩
  | .hbm, ⟨54, _⟩ => ⟨S16x2048x512, .f32⟩
  | .hbm, ⟨55, _⟩ => ⟨S16x2048x2048, .f32⟩
  | .hbm, ⟨56, _⟩ => ⟨S16x2048x2048, .f32⟩
  | .hbm, ⟨57, _⟩ => ⟨S16x2048x2048, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x2048, .f32⟩
  | .hbm, ⟨69, _⟩ => ⟨S16x2048x2048, .f32⟩
  | .hbm, ⟨70, _⟩ => ⟨S1x1x2048, .f32⟩
  | .hbm, ⟨71, _⟩ => ⟨S16x2048x2048, .f32⟩
  | .hbm, ⟨72, _⟩ => ⟨S16x2048x2048, .f32⟩
  | .hbm, ⟨73, _⟩ => ⟨S16x2048x2048, .bf16⟩
  | .hbm, ⟨74, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.SinkSoftmax.lean ====
/- A softmax row with a sink, over the extended reals: the greatest score, the total of the exponentials, the weights and the
   weighted sum of values; and what masked keys (score `⊥`) leave of it. Nothing here names a program. -/
module

public import Idealize.ShloMosaic.PureOps.Ideal

@[expose] public section

noncomputable section

namespace Cert.SinkSoftmax

open Idealize.ShloMosaic

/-- The greatest of a row's scores and its sink. -/
def top {n : Nat} (s : Fin n → EReal) (σ : EReal) : EReal := max (Finset.univ.fold max ⊥ s) σ

/-- The sum of the exponentials of the scores and of the sink, each below the greatest of them. -/
def total {n : Nat} (s : Fin n → EReal) (σ : EReal) : EReal :=
  ∑ j, Ideal.exp (s j - top s σ) + Ideal.exp (σ - top s σ)

/-- The weight of key `j`. -/
def weight {n : Nat} (s : Fin n → EReal) (σ : EReal) (j : Fin n) : EReal :=
  Ideal.div (Ideal.exp (s j - top s σ)) (total s σ)

/-- The values mixed by the weights. -/
def mix {n : Nat} (s : Fin n → EReal) (σ : EReal) (v : Fin n → EReal) : EReal := ∑ j, weight s σ j * v j

/-- The exponential of an extended real is not negative. -/
theorem exp_nonneg (x : EReal) : 0 ≤ Ideal.exp x := by
  induction x with
  | bot => exact le_refl _
  | top => exact le_top
  | coe r => exact EReal.coe_nonneg.2 (Real.exp_pos r).le

/-- A masked key's exponential is zero, whatever the row's maximum. -/
theorem exp_bot_sub (x : EReal) : Ideal.exp (⊥ - x) = 0 := by
  rw [EReal.bot_sub]; rfl

/-- A real score less itself has exponential one. -/
theorem exp_self_sub {x : EReal} (hb : x ≠ ⊥) (ht : x ≠ ⊤) : Ideal.exp (x - x) = 1 := by
  rw [EReal.sub_self ht hb]
  show ((Real.exp 0 : ℝ) : EReal) = 1
  rw [Real.exp_zero]; rfl

/-- A quotient of zero by what is not zero is zero. -/
theorem zero_div {d : EReal} (hd : d ≠ 0) : Ideal.div 0 d = 0 := by
  unfold Ideal.div; rw [if_neg hd, zero_mul]

/-- Where the greatest score is real the total is not zero: the greatest itself adds one. -/
theorem total_ne_zero {n : Nat} (s : Fin n → EReal) (σ : EReal) (hb : top s σ ≠ ⊥) (ht : top s σ ≠ ⊤) : total s σ ≠ 0 := by
  have key : 0 < total s σ := by
    unfold total
    rcases le_total (Finset.univ.fold max ⊥ s) σ with h | h
    · have e : top s σ = σ := max_eq_right h
      rw [show Ideal.exp (σ - top s σ) = 1 by rw [e]; exact exp_self_sub (e ▸ hb) (e ▸ ht)]
      exact lt_of_lt_of_le zero_lt_one (le_add_of_nonneg_left (Finset.sum_nonneg fun j _ => exp_nonneg _))
    · have e : top s σ = Finset.univ.fold max ⊥ s := max_eq_left h
      have hle : top s σ ≤ Finset.univ.fold max ⊥ s := e.le
      rcases Finset.le_fold_max _ |>.1 hle with h0 | ⟨j, _, hj⟩
      · exact absurd (le_bot_iff.1 h0) hb
      · have hj' : s j = top s σ := le_antisymm
          (e ▸ (Finset.le_fold_max _).2 (Or.inr ⟨j, Finset.mem_univ j, le_refl _⟩)) hj
        have h1 : Ideal.exp (s j - top s σ) = 1 := by rw [hj']; exact exp_self_sub hb ht
        refine lt_of_lt_of_le zero_lt_one (le_add_of_le_of_nonneg ?_ (exp_nonneg _))
        rw [← h1]
        exact Finset.single_le_sum (f := fun i => Ideal.exp (s i - top s σ)) (fun i _ => exp_nonneg _) (Finset.mem_univ j)
  exact key.ne'

/-- The greatest score is at least the sink and at least every score; it is below any bound of them all. -/
theorem le_top_sink {n : Nat} (s : Fin n → EReal) (σ : EReal) : σ ≤ top s σ := le_max_right _ _
/-- It is not `⊤` where no score and not the sink is. -/
theorem top_ne_top {n : Nat} (s : Fin n → EReal) (σ : EReal) (hs : ∀ j, s j ≠ ⊤) (hσ : σ ≠ ⊤) : top s σ ≠ ⊤ := by
  apply ne_of_lt
  refine max_lt ?_ (lt_top_iff_ne_top.2 hσ)
  exact (Finset.fold_max_lt _).2 ⟨bot_lt_top, fun j _ => lt_top_iff_ne_top.2 (hs j)⟩

/-- Keys outside the range of `e`, all masked, do not move the greatest score. -/
theorem top_restrict {n k : Nat} (e : Fin k → Fin n) (s : Fin n → EReal) (σ : EReal)
    (hm : ∀ i, i ∉ Set.range e → s i = ⊥) : top (fun j => s (e j)) σ = top s σ := by
  unfold top
  congr 1
  apply le_antisymm
  · exact (Finset.fold_max_le _).2 ⟨bot_le, fun j _ => (Finset.le_fold_max _).2 (Or.inr ⟨e j, Finset.mem_univ _, le_refl _⟩)⟩
  · refine (Finset.fold_max_le _).2 ⟨bot_le, fun i _ => ?_⟩
    by_cases hi : i ∈ Set.range e
    · obtain ⟨j, rfl⟩ := hi
      exact (Finset.le_fold_max _).2 (Or.inr ⟨j, Finset.mem_univ _, le_refl _⟩)
    · rw [hm i hi]; exact bot_le

/-- Nor the total. -/
theorem total_restrict {n k : Nat} (e : Fin k → Fin n) (he : Function.Injective e) (s : Fin n → EReal) (σ : EReal)
    (hm : ∀ i, i ∉ Set.range e → s i = ⊥) : total (fun j => s (e j)) σ = total s σ := by
  unfold total
  rw [top_restrict e s σ hm]
  congr 1
  exact Fintype.sum_of_injective e he _ _ (fun i hi => by rw [hm i hi, exp_bot_sub]) (fun j => rfl)

/-- The mix over all keys is the mix over those in the range of `e`, where the others are masked; the value of a masked key
    does not enter it, so the two may differ there. -/
theorem mix_restrict {n k : Nat} (e : Fin k → Fin n) (he : Function.Injective e) (s : Fin n → EReal) (σ : EReal)
    (v : Fin n → EReal) (v' : Fin k → EReal) (hm : ∀ i, i ∉ Set.range e → s i = ⊥)
    (hv : ∀ j, s (e j) = ⊥ ∨ v' j = v (e j)) (hb : top s σ ≠ ⊥) (ht : top s σ ≠ ⊤) :
    mix (fun j => s (e j)) σ v' = mix s σ v := by
  have h0 := total_ne_zero s σ hb ht
  have hw : ∀ i, s i = ⊥ → weight s σ i = 0 := fun i hi => by
    unfold weight; rw [hi, exp_bot_sub, zero_div h0]
  unfold mix
  refine Fintype.sum_of_injective e he _ _ (fun i hi => by rw [hw i (hm i hi), zero_mul]) (fun j => ?_)
  have hwe : weight (fun j => s (e j)) σ j = weight s σ (e j) := by
    unfold weight; rw [top_restrict e s σ hm, total_restrict e he s σ hm]
  rw [hwe]
  rcases hv j with h | h
  · rw [hw _ h, zero_mul, zero_mul]
  · rw [h]

/-- The greatest of the scores and the sink, the sink held as the last entry of one row. -/
theorem fold_snoc {n : Nat} (s : Fin n → EReal) (σ : EReal) (f : Fin (n + 1) → EReal) (hf : ∀ j, f (Fin.castSucc j) = s j)
    (hl : f (Fin.last n) = σ) : Finset.univ.fold max ⊥ f = top s σ := by
  unfold top
  apply le_antisymm
  · refine (Finset.fold_max_le _).2 ⟨bot_le, fun i _ => ?_⟩
    induction i using Fin.lastCases with
    | last => rw [hl]; exact le_max_right _ _
    | cast j => rw [hf]; exact le_max_of_le_left ((Finset.le_fold_max _).2 (Or.inr ⟨j, Finset.mem_univ _, le_refl _⟩))
  · refine max_le ((Finset.fold_max_le _).2 ⟨bot_le, fun j _ => ?_⟩) ?_
    · rw [← hf]; exact (Finset.le_fold_max _).2 (Or.inr ⟨_, Finset.mem_univ _, le_refl _⟩)
    · rw [← hl]; exact (Finset.le_fold_max _).2 (Or.inr ⟨_, Finset.mem_univ _, le_refl _⟩)

/-- The total of the exponentials, the sink held as the last entry of one row. -/
theorem sum_snoc {n : Nat} (s : Fin n → EReal) (σ : EReal) (f : Fin (n + 1) → EReal) (hf : ∀ j, f (Fin.castSucc j) = s j)
    (hl : f (Fin.last n) = σ) : ∑ i, Ideal.exp (f i - top s σ) = total s σ := by
  unfold total
  rw [Fin.sum_univ_castSucc]
  simp only [hf, hl]

end Cert.SinkSoftmax

end
-- ==== Proof.AttnBlock.lean ====
/- What one block of the attention kernel computes, read at an index over the extended reals: the mask's words, the scores of
   a head, its weights, and the eight blocks of lanes the kernel stores. -/
module

public import proofs.«01_k».proof.Proof.Gen.AttnIdeal.Value
public import proofs.«01_k».proof.Proof.SinkSoftmax
public import Idealize.ShloMosaic.Lib.ValueIdx
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.AttnIdeal.Block

open Cert.AttnIdeal Cert.AttnIdeal.Gen
open Cert.SinkSoftmax (mix top total weight)

/-! ## The head, as the kernel composes it -/

section Terms
variable {F : FTy → Type} [FloatOps F] [Named F]

/-- The mask at column `c` of the grid: which of the block's 256 keys each of its 128 queries may see. -/
def seen (c : BitVec 32) : IVec S256x128 1 :=
  k0_pay11 c (k0_pay9 (iota .tc S256x128 32 [0] iota_S256x128_d0_w32) (64#32) k0_pay7 k0_pay8)
    (k0_pay10 (iota .tc S256x128 32 [0] iota_S256x128_d0_w32) (64#32) k0_pay7 k0_pay8)

/-- A head's 64 lanes with 64 lanes of zero behind them. -/
def padBack (x : FVec F S256x256 .bf16) (og : Nat) (hg : S256x256.Slices ![0, og] S256x64) : FVec F S256x128 .bf16 :=
  concatenate S256x128 1 [⟨S256x64, extractStridedSlice S256x64 ![0, og] x hg⟩, ⟨S256x64, k0_pay12 (F := F)⟩]
    concatenates_S256x64_S256x64_S256x128_d1

/-- A head's 64 lanes with 64 lanes of zero in front of them. -/
def padFront (x : FVec F S256x256 .bf16) (og : Nat) (hg : S256x256.Slices ![0, og] S256x64) : FVec F S256x128 .bf16 :=
  concatenate S256x128 1 [⟨S256x64, k0_pay12 (F := F)⟩, ⟨S256x64, extractStridedSlice S256x64 ![0, og] x hg⟩]
    concatenates_S256x64_S256x64_S256x128_d1

/-- Padded keys times the 128 lanes of a pair of query heads. -/
def scores (kp : FVec F S256x128 .bf16) (q : FVec F S128x1024 .bf16) (oq : Nat) (hq : S128x1024.Slices ![0, oq] S128x128) :
    FVec F S256x128 .f32 :=
  matmul dot_S256x128_S128x128_S256x128_1_1_0_0_n_n none kp (extractStridedSlice S128x128 ![0, oq] q hq)
    (constant S256x128 .f32 0x00000000#32)

/-- The weights of masked, scaled scores with a sink. -/
def prob (mask : IVec S256x128 1) (s : FVec F S256x128 .f32) (σ : Elt F .f32) : FVec F S256x128 .bf16 :=
  k0_pay35 (k0_pay32 mask s σ) (k0_pay33 mask s σ) (k0_pay34 mask s σ)

/-- The pair of heads' values mixed, each into its own half of 128 lanes. -/
def mixed (p0 p1 vp0 vp1 : FVec F S256x128 .bf16) : FVec F S1x128x128 .f32 :=
  shapeCast S1x128x128 (addf
    (matmul dot_S256x128_S256x128_S128x128_0_0_1_1_n_n none p0 vp0 (constant S128x128 .f32 0x00000000#32))
    (matmul dot_S256x128_S256x128_S128x128_0_0_1_1_n_n none p1 vp1 (constant S128x128 .f32 0x00000000#32)))
    shapeCasts_S128x128_S1x128x128

/-- One stored block: the pair of heads whose query lanes begin at `oq` and whose key and value lanes begin at `og`. -/
def pair (mask : IVec S256x128 1) (q : FVec F S128x1024 .bf16) (k v : FVec F S256x256 .bf16) (σ0 σ1 : Elt F .f32)
    (og oq : Nat) (hg : S256x256.Slices ![0, og] S256x64) (hq : S128x1024.Slices ![0, oq] S128x128) : FVec F S1x128x128 .f32 :=
  mixed (prob mask (scores (padBack k og hg) q oq hq) σ0) (prob mask (scores (padFront k og hg) q oq hq) σ1)
    (padBack v og hg) (padFront v og hg)

end Terms

/-! ## The mask's words -/

/-- The chunk of a key, as the kernel's word of it (a floor division of the row number by 64). -/
theorem chunk_word : ∀ i : Fin 256, Scalar.select
    (IntOp.andi
      (IntOp.cmpi CmpIPredicate.ne
        (IntOp.subi (BitVec.setWidth 32 (IntOp.cmpi CmpIPredicate.sgt (BitVec.ofNat 32 i.val) 0#32))
          (BitVec.setWidth 32 (IntOp.cmpi CmpIPredicate.slt (BitVec.ofNat 32 i.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 i.val) 64#32) 0#32))
    (IntOp.subi (IntOp.divsi ArithUnit.vector (BitVec.ofNat 32 i.val) 64#32) 1#32)
    (IntOp.divsi ArithUnit.vector (BitVec.ofNat 32 i.val) 64#32) = BitVec.ofNat 32 (i.val / 64) := by
  decide +kernel

/-- The mask's word in terms of the chunks. -/
theorem seen_word : ∀ (c : Fin 16) (a : Fin 4) (b : Fin 2),
    IntOp.andi
      (IntOp.andi
        (IntOp.cmpi CmpIPredicate.sge (IntOp.subi (IntOp.addi (BitVec.ofNat 32 b.val) 2#32) (BitVec.ofNat 32 a.val)) 0#32)
        (IntOp.cmpi CmpIPredicate.sle (IntOp.subi (IntOp.addi (BitVec.ofNat 32 b.val) 2#32) (BitVec.ofNat 32 a.val)) 2#32))
      (IntOp.cmpi CmpIPredicate.sge
        (IntOp.addi (Scalar.subi (Scalar.muli (BitVec.ofNat 32 c.val) 2#32) 2#32) (BitVec.ofNat 32 a.val)) 0#32)
      = if b.val ≤ a.val ∧ a.val ≤ b.val + 2 ∧ 2 ≤ 2 * c.val + a.val then 1#1 else 0#1 := by
  decide +kernel

/-- A query sees the keys of its own chunk and of the two before it, where there are such. -/
theorem seen_apply (c : Fin 16) (n : Fin 256) (r : Fin 128) : seen (BitVec.ofNat 32 c.val) (ix2 n r)
    = if r.val / 64 ≤ n.val / 64 ∧ n.val / 64 ≤ r.val / 64 + 2 ∧ 2 ≤ 2 * c.val + n.val / 64 then 1#1 else 0#1 := by
  unfold seen
  unfold_payloads
  pointwise
  have hn := chunk_word n
  have hr := chunk_word ⟨r.val, by omega⟩
  dsimp only at hr
  rw [hn, hr]
  exact seen_word c ⟨n.val / 64, by omega⟩ ⟨r.val / 64, by omega⟩

/-! ## A head at an index -/

/-- The score of key `n` for query `r` in head `h`: masked to `⊥`, or the product of the two rows of 64 lanes, scaled. -/
def headScore (mask : IVec S256x128 1) (q : FVec Ideal S128x1024 .bf16) (k : FVec Ideal S256x256 .bf16) (r : Fin 128)
    (h : Fin 16) (n : Fin 256) : EReal :=
  if mask (ix2 n r) = 1#1 then
    (∑ d : Fin 64, k (ix2 n ⟨64 * (h.val / 4) + d.val, by omega⟩) * q (ix2 r ⟨64 * h.val + d.val, by omega⟩))
      * Ideal.ofBits .f32 0x3E000000#32
  else ⊥

/-- What the block holds for query `r` at lane `l`: lane `l % 64` of the values of head `l / 64`, mixed. -/
def headMix (mask : IVec S256x128 1) (q : FVec Ideal S128x1024 .bf16) (k v : FVec Ideal S256x256 .bf16)
    (σ : FVec Ideal S16 .f32) (r : Fin 128) (l : Fin 1024) : EReal :=
  mix (headScore mask q k r ⟨l.val / 64, by omega⟩) (σ (ix1 ⟨l.val / 64, by omega⟩))
    (fun n => v (ix2 n ⟨64 * (l.val / 64 / 4) + l.val % 64, by omega⟩))

variable (q : FVec Ideal S128x1024 .bf16) (k v : FVec Ideal S256x256 .bf16) (mask : IVec S256x128 1)

/-- The first head of a pair: the products over its 64 lanes. -/
theorem scores_back (og oq : Nat) (hg : S256x256.Slices ![0, og] S256x64) (hq : S128x1024.Slices ![0, oq] S128x128)
    (Hg : og + 64 ≤ 256) (Hq : oq + 128 ≤ 1024) (n : Fin 256) (r : Fin 128) :
    scores (padBack k og hg) q oq hq (ix2 n r)
      = ∑ d : Fin 64, k (ix2 n ⟨og + d.val, by omega⟩) * q (ix2 r ⟨oq + d.val, by omega⟩) := by
  unfold scores padBack k0_pay12
  pointwise [dot_S256x128_S128x128_S256x128_1_1_0_0_n_n]
  exact (congrArg₂ (· + ·) rfl (Finset.sum_eq_zero fun d _ => zero_mul _)).trans (add_zero _)

/-- The second head of a pair: the products over its 64 lanes. -/
theorem scores_front (og oq : Nat) (hg : S256x256.Slices ![0, og] S256x64) (hq : S128x1024.Slices ![0, oq] S128x128)
    (Hg : og + 64 ≤ 256) (Hq : oq + 128 ≤ 1024) (n : Fin 256) (r : Fin 128) :
    scores (padFront k og hg) q oq hq (ix2 n r)
      = ∑ d : Fin 64, k (ix2 n ⟨og + d.val, by omega⟩) * q (ix2 r ⟨oq + 64 + d.val, by omega⟩) := by
  unfold scores padFront k0_pay12
  pointwise [dot_S256x128_S128x128_S256x128_1_1_0_0_n_n]
  refine ((congrArg₂ (· + ·) (Finset.sum_eq_zero fun d _ => zero_mul _) rfl).trans (zero_add _)).trans ?_
  refine Finset.sum_congr rfl fun d _ => congrArg₂ (· * ·) rfl (congrArg q ?_)
  exact congrArg (ix2 r) (Fin.ext (Nat.add_assoc oq 64 d.val).symm)

/-- A key's weight is the weight of the row of masked, scaled scores with the sink. -/
theorem prob_apply (s : FVec Ideal S256x128 .f32) (σ : Elt Ideal .f32) (n : Fin 256) (r : Fin 128) :
    prob mask s σ (ix2 n r)
      = weight (fun n => if mask (ix2 n r) = 1#1 then s (ix2 n r) * Ideal.ofBits .f32 0x3E000000#32 else ⊥) σ n := by
  have hb : Ideal.ofBits .f32 0xFF800000#32 = ⊥ := by simp [Ideal.ofBits, Ideal.ieee]
  have hn : (Named.named κ "mask" 0xF149F2CA#32 : Ideal .f32) = (⊥ : EReal) :=
    IdealRules.named_const.ideal_named_scalar _ _ _ _ rfl
  unfold prob
  unfold_payloads
  pointwise
  rw [hn, hb]
  rfl

/-- A stored block at an index: the mix of the head its lane belongs to. -/
theorem pair_apply (σ : FVec Ideal S16 .f32) (σ0 σ1 : Elt Ideal .f32) (p : Fin 8) (og oq : Nat)
    (hg : S256x256.Slices ![0, og] S256x64) (hq : S128x1024.Slices ![0, oq] S128x128) (Hg : og = 64 * (p.val / 2))
    (Hq : oq = 128 * p.val) (h0 : σ0 = σ (ix1 ⟨2 * p.val, by omega⟩)) (h1 : σ1 = σ (ix1 ⟨2 * p.val + 1, by omega⟩))
    (r l : Fin 128) :
    pair mask q k v σ0 σ1 og oq hg hq (ix3 (0 : Fin 1) r l) = headMix mask q k v σ r ⟨128 * p.val + l.val, by omega⟩ := by
  subst Hg Hq h0 h1
  unfold pair mixed padBack padFront k0_pay12
  pointwise [dot_S256x128_S256x128_S128x128_0_0_1_1_n_n]
  have hp := p.isLt
  by_cases hl : l.val < 64
  · refine (congrArg₂ (· + ·) (Finset.sum_congr rfl fun n _ => congrArg₂ (· * ·) (prob_apply mask _ _ n r) (dif_pos hl))
      (Finset.sum_eq_zero fun n _ => (congrArg₂ (· * ·) rfl (dif_pos hl)).trans (mul_zero _))).trans ((add_zero _).trans ?_)
    have e1 : (128 * p.val + l.val) / 64 = 2 * p.val := by omega
    have e2 : (128 * p.val + l.val) % 64 = l.val := by omega
    unfold headMix mix
    refine Finset.sum_congr rfl fun n _ => congrArg₂ (· * ·) ?_ ?_
    · congr 1
      · funext n
        unfold headScore
        refine if_congr Iff.rfl (congrArg₂ (· * ·) ((scores_back q k _ _ hg hq (by omega) (by omega) n r).trans ?_) rfl) rfl
        refine Finset.sum_congr rfl fun d _ => congrArg₂ (· * ·) (congrArg k (congrArg (ix2 n) (Fin.ext ?_))) (congrArg q (congrArg (ix2 r) (Fin.ext ?_)))
        · show 64 * (p.val / 2) + d.val = 64 * ((128 * p.val + l.val) / 64 / 4) + d.val
          omega
        · show 128 * p.val + d.val = 64 * ((128 * p.val + l.val) / 64) + d.val
          omega
      · exact congrArg σ (congrArg ix1 (Fin.ext e1.symm))
    · refine congrArg v (congrArg (ix2 n) (Fin.ext ?_))
      show 64 * (p.val / 2) + l.val = 64 * ((128 * p.val + l.val) / 64 / 4) + (128 * p.val + l.val) % 64
      omega
  · refine (congrArg₂ (· + ·) (Finset.sum_eq_zero fun n _ => (congrArg₂ (· * ·) rfl (dif_neg hl)).trans (mul_zero _))
      (Finset.sum_congr rfl fun n _ => congrArg₂ (· * ·) (prob_apply mask _ _ n r) (dif_neg hl))).trans ((zero_add _).trans ?_)
    have hl' := l.isLt
    have e1 : (128 * p.val + l.val) / 64 = 2 * p.val + 1 := by omega
    unfold headMix mix
    refine Finset.sum_congr rfl fun n _ => congrArg₂ (· * ·) ?_ ?_
    · congr 1
      · funext n
        unfold headScore
        refine if_congr Iff.rfl (congrArg₂ (· * ·) ((scores_front q k _ _ hg hq (by omega) (by omega) n r).trans ?_) rfl) rfl
        refine Finset.sum_congr rfl fun d _ => congrArg₂ (· * ·) (congrArg k (congrArg (ix2 n) (Fin.ext ?_))) (congrArg q (congrArg (ix2 r) (Fin.ext ?_)))
        · show 64 * (p.val / 2) + d.val = 64 * ((128 * p.val + l.val) / 64 / 4) + d.val
          omega
        · show 128 * p.val + 64 + d.val = 64 * ((128 * p.val + l.val) / 64) + d.val
          omega
      · exact congrArg σ (congrArg ix1 (Fin.ext e1.symm))
    · refine congrArg v (congrArg (ix2 n) (Fin.ext ?_))
      show 64 * (p.val / 2) + (l.val - 64) = 64 * ((128 * p.val + l.val) / 64 / 4) + (128 * p.val + l.val) % 64
      omega

end Cert.AttnIdeal.Block

end
-- ==== Proof.AttnArray.lean ====
/- The attention kernel's array after its run: every block at its composed term, and the array at an index. -/
module

public import proofs.«01_k».proof.Proof.AttnBlock
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen Cert.AttnIdeal.Block

variable (m : (ℓ : Loc nD τ sig) → Buf (Elt Ideal) ℓ) (ρ : Dev nD → PrngReg)

/-- The block a point of the grid stores, from its blocks of the arguments. -/
def blockVal (w : BitVec 32) (σ : FVec Ideal S16 .f32) (q : FVec Ideal S1x128x1024 .f32)
    (k0 k1 k2 k3 v0 v1 v2 v3 : FVec Ideal S1x64x256 .f32) (y : S1x128x1024.Idx) : EReal :=
  headMix (seen w) (k0_pay4 q) (k0_pay5 k0 k1 k2 k3) (k0_pay6 v0 v1 v2 v3) σ (y 1) (y 2)

/-- The corner of a whole block. -/
theorem zero3 : (![0, 0, 0] : Fin 3 → Nat) = fun _ => 0 := funext fun a => by fin_cases a <;> rfl

/-- The whole block of the queries, loaded. -/
theorem ld_q (X : FVec Ideal S1x128x1024 .f32) (inb) : View.ld (Val := Elt Ideal) (e' := .f32) X (Rect.unit (s := S1x128x1024) ![0, 0, 0] ![1, 128, 1024] inb) = X :=
  View.ld_unit_zero (S := S1x128x1024) (Val := Elt Ideal) (e := .f32) zero3 inb X

/-- A whole block of keys or values, loaded. -/
theorem ld_k (X : FVec Ideal S1x64x256 .f32) (inb) : View.ld (Val := Elt Ideal) (e' := .f32) X (Rect.unit (s := S1x64x256) ![0, 0, 0] ![1, 64, 256] inb) = X :=
  View.ld_unit_zero (S := S1x64x256) (Val := Elt Ideal) (e := .f32) zero3 inb X

/-- One sink, loaded. -/
theorem ld_s (X : FVec Ideal S16 .f32) (j : Nat) (hj : j < 16) (inb) (h) :
    View.ld (Val := Elt Ideal) (e' := .f32) X (Rect.unit (s := S16) ![j] ![1] inb) (Shape.Idx.first h) = X (ix1 ⟨j, hj⟩) :=
  congrArg X (funext fun a => by fin_cases a; exact Fin.ext (by simp [Rect.unit, Rect.emb, Shape.Idx.first]))

/-- A stored block of 128 lanes is the stretch of the heads' mixed values it is stored at. -/
theorem piece (mask : IVec S256x128 1) (q : FVec Ideal S128x1024 .bf16) (k v : FVec Ideal S256x256 .bf16) (σ : FVec Ideal S16 .f32)
    (p : Fin 8) (σ0 σ1 : Elt Ideal .f32) (og oq : Nat) (hg : S256x256.Slices ![0, og] S256x64) (hq : S128x1024.Slices ![0, oq] S128x128)
    (Hg : og = 64 * (p.val / 2)) (Hq : oq = 128 * p.val) (h0 : σ0 = σ (ix1 ⟨2 * p.val, by omega⟩)) (h1 : σ1 = σ (ix1 ⟨2 * p.val + 1, by omega⟩))
    (inb) (x : S1x128x128.Idx) :
    pair mask q k v σ0 σ1 og oq hg hq x
      = headMix mask q k v σ ((Rect.unit (s := S1x128x1024) ![0, 0, oq] ![1, 128, 128] inb).emb x 1)
          ((Rect.unit (s := S1x128x1024) ![0, 0, oq] ![1, 128, 128] inb).emb x 2) := by
  have hx : x = ix3 (0 : Fin 1) (x 1) (x 2) := funext fun a => by
    fin_cases a
    · exact Subsingleton.elim (α := Fin 1) _ _
    · rfl
    · rfl
  refine ((congrArg (pair mask q k v σ0 σ1 og oq hg hq) hx).trans (pair_apply q k v mask σ σ0 σ1 p og oq hg hq Hg Hq h0 h1 (x 1) (x 2))).trans ?_
  subst Hq
  exact congrArg₂ (headMix mask q k v σ) (Fin.ext (by simp [Rect.unit, Rect.emb])) (Fin.ext (by simp [Rect.unit, Rect.emb]))

set_option maxHeartbeats 4000000 in
/-- What a point of the grid writes back. -/
theorem flushed_eq (c : Dev nD) (t : Fin cfg0.N) :
    (dats m 0 c).flushed 10 t = (cfg0.win 10).cut (grid0.coords t) (blockVal (BitVec.ofNat 32 (grid0.coords t 1).val) (iblk m c 0 t) (iblk m c 1 t)
      (iblk m c 2 t) (iblk m c 3 t) (iblk m c 4 t) (iblk m c 5 t) (iblk m c 6 t) (iblk m c 7 t) (iblk m c 8 t) (iblk m c 9 t)) := by
  rw [Value.flushed10_A]
  refine congrArg _ ?_
  funext y
  have hc := cover0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t)
  unfold out0_A_10
  rw [View.read_writes_eq_canon _ _ _ hc]
  refine View.canon_apply_of_pieces _ _ ?_ y (hc y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, (hs0_8 t).read_unread, (hs0_9 t).read_unread,
    ld_q, ld_k]
  simp only [List.forall_mem_cons]
  refine ⟨fun x => piece _ _ _ _ (iblk m c 0 t) 7 _ _ 192 896 _ _ rfl rfl (ld_s _ _ _ _ _) (ld_s _ _ _ _ _) _ x, fun x => piece _ _ _ _ (iblk m c 0 t) 6 _ _ 192 768 _ _ rfl rfl (ld_s _ _ _ _ _) (ld_s _ _ _ _ _) _ x, fun x => piece _ _ _ _ (iblk m c 0 t) 5 _ _ 128 640 _ _ rfl rfl (ld_s _ _ _ _ _) (ld_s _ _ _ _ _) _ x, fun x => piece _ _ _ _ (iblk m c 0 t) 4 _ _ 128 512 _ _ rfl rfl (ld_s _ _ _ _ _) (ld_s _ _ _ _ _) _ x, fun x => piece _ _ _ _ (iblk m c 0 t) 3 _ _ 64 384 _ _ rfl rfl (ld_s _ _ _ _ _) (ld_s _ _ _ _ _) _ x, fun x => piece _ _ _ _ (iblk m c 0 t) 2 _ _ 64 256 _ _ rfl rfl (ld_s _ _ _ _ _) (ld_s _ _ _ _ _) _ x, fun x => piece _ _ _ _ (iblk m c 0 t) 1 _ _ 0 128 _ _ rfl rfl (ld_s _ _ _ _ _) (ld_s _ _ _ _ _) _ x, fun x => piece _ _ _ _ (iblk m c 0 t) 0 _ _ 0 0 _ _ rfl rfl (ld_s _ _ _ _ _) (ld_s _ _ _ _ _) _ x, fun _ h => nomatch h⟩

/-! ## The blocks as stretches of the arrays -/

/-- The row of the prompt a block's key `n` is read from (the first blocks read chunk 0 in place of the chunks before it). -/
def keyRow (b : Fin 16) (n : Fin 256) : Fin 2048 := ⟨64 * (2 * b.val + n.val / 64 - 2) + n.val % 64, by omega⟩

/-- Where block 1 of a point lies. -/
theorem idx1 : ∀ t : Fin cfg0.N, win0_1.index t = ![(grid0.coords t 0).val, (grid0.coords t 1).val, 0] := by decide +kernel
/-- Where block 10 of a point lies. -/
theorem idx10 : ∀ t : Fin cfg0.N, win0_10.index t = ![(grid0.coords t 0).val, (grid0.coords t 1).val, 0] := by decide +kernel
/-- Where block 0 of a point lies. -/
theorem idx0 : ∀ t : Fin cfg0.N, win0_0.index t = ![0] := by decide +kernel
/-- Where block 2 of a point lies. -/
theorem idx2 : ∀ t : Fin cfg0.N, win0_2.index t = ![(grid0.coords t 0).val, 2 * (grid0.coords t 1).val - 2, 0] := by decide +kernel
/-- Where block 3 of a point lies. -/
theorem idx3 : ∀ t : Fin cfg0.N, win0_3.index t = ![(grid0.coords t 0).val, 2 * (grid0.coords t 1).val + 1 - 2, 0] := by decide +kernel
/-- Where block 4 of a point lies. -/
theorem idx4 : ∀ t : Fin cfg0.N, win0_4.index t = ![(grid0.coords t 0).val, 2 * (grid0.coords t 1).val, 0] := by decide +kernel
/-- Where block 5 of a point lies. -/
theorem idx5 : ∀ t : Fin cfg0.N, win0_5.index t = ![(grid0.coords t 0).val, 2 * (grid0.coords t 1).val + 1, 0] := by decide +kernel
/-- Where block 6 of a point lies. -/
theorem idx6 : ∀ t : Fin cfg0.N, win0_6.index t = ![(grid0.coords t 0).val, 2 * (grid0.coords t 1).val - 2, 0] := by decide +kernel
/-- Where block 7 of a point lies. -/
theorem idx7 : ∀ t : Fin cfg0.N, win0_7.index t = ![(grid0.coords t 0).val, 2 * (grid0.coords t 1).val + 1 - 2, 0] := by decide +kernel
/-- Where block 8 of a point lies. -/
theorem idx8 : ∀ t : Fin cfg0.N, win0_8.index t = ![(grid0.coords t 0).val, 2 * (grid0.coords t 1).val, 0] := by decide +kernel
/-- Where block 9 of a point lies. -/
theorem idx9 : ∀ t : Fin cfg0.N, win0_9.index t = ![(grid0.coords t 0).val, 2 * (grid0.coords t 1).val + 1, 0] := by decide +kernel

/-- A point's queries are 128 rows of the prompt's. -/
theorem q_block (c : Dev nD) (t : Fin cfg0.N) (r : Fin 128) (l : Fin 1024) :
    k0_pay4 (iblk m c 1 t) (ix2 r l)
      = m ((c : Thread nD τ).loc main_arg0) (ix3 (⟨(grid0.coords t 0).val, (grid0.coords t 0).isLt⟩ : Fin 16)
          (⟨128 * (grid0.coords t 1).val + r.val, by have : (grid0.coords t 1).val < 16 := (grid0.coords t 1).isLt; omega⟩ : Fin 2048) l) := by
  unfold_payloads
  pointwise
  blk_ext [iblk, V, idx1 t]

/-- A point's keys are 256 rows of the prompt's. -/
theorem k_block (c : Dev nD) (t : Fin cfg0.N) (n : Fin 256) (l : Fin 256) :
    k0_pay5 (iblk m c 2 t) (iblk m c 3 t) (iblk m c 4 t) (iblk m c 5 t) (ix2 n l)
      = m ((c : Thread nD τ).loc main_arg1) (ix3 (⟨(grid0.coords t 0).val, (grid0.coords t 0).isLt⟩ : Fin 16)
          (keyRow ⟨(grid0.coords t 1).val, (grid0.coords t 1).isLt⟩ n) l) := by
  unfold_payloads
  pointwise
  have hn := n.isLt
  by_cases h0 : n.val < 64
  · refine (dif_pos h0).trans ?_
    have e : n.val / 64 = 0 := by omega
    blk_ext [iblk, V, idx2 t, keyRow, e]
  refine (dif_neg h0).trans ?_
  by_cases h1 : n.val - 64 < 64
  · refine (dif_pos h1).trans ?_
    have e : n.val / 64 = 1 := by omega
    blk_ext [iblk, V, idx3 t, keyRow, e]
  refine (dif_neg h1).trans ?_
  by_cases h2 : n.val - 64 - 64 < 64
  · refine (dif_pos h2).trans ?_
    have e : n.val / 64 = 2 := by omega
    blk_ext [iblk, V, idx4 t, keyRow, e]
  refine (dif_neg h2).trans ?_
  have e : n.val / 64 = 3 := by omega
  blk_ext [iblk, V, idx5 t, keyRow, e]

/-- A point's values are the same 256 rows of the prompt's. -/
theorem v_block (c : Dev nD) (t : Fin cfg0.N) (n : Fin 256) (l : Fin 256) :
    k0_pay6 (iblk m c 6 t) (iblk m c 7 t) (iblk m c 8 t) (iblk m c 9 t) (ix2 n l)
      = m ((c : Thread nD τ).loc main_arg2) (ix3 (⟨(grid0.coords t 0).val, (grid0.coords t 0).isLt⟩ : Fin 16)
          (keyRow ⟨(grid0.coords t 1).val, (grid0.coords t 1).isLt⟩ n) l) := by
  unfold_payloads
  pointwise
  have hn := n.isLt
  by_cases h0 : n.val < 64
  · refine (dif_pos h0).trans ?_
    have e : n.val / 64 = 0 := by omega
    blk_ext [iblk, V, idx6 t, keyRow, e]
  refine (dif_neg h0).trans ?_
  by_cases h1 : n.val - 64 < 64
  · refine (dif_pos h1).trans ?_
    have e : n.val / 64 = 1 := by omega
    blk_ext [iblk, V, idx7 t, keyRow, e]
  refine (dif_neg h1).trans ?_
  by_cases h2 : n.val - 64 - 64 < 64
  · refine (dif_pos h2).trans ?_
    have e : n.val / 64 = 2 := by omega
    blk_ext [iblk, V, idx8 t, keyRow, e]
  refine (dif_neg h2).trans ?_
  have e : n.val / 64 = 3 := by omega
  blk_ext [iblk, V, idx9 t, keyRow, e]

/-- A point's sinks are the sinks. -/
theorem s_block (c : Dev nD) (t : Fin cfg0.N) (h : Fin 16) : iblk m c 0 t (ix1 h) = m ((c : Thread nD τ).loc main_arg3) (ix1 h) := by
  blk_ext [iblk, V, idx0 t]

/-! ## The array -/

/-- Token `T` sees key `n` of its block's 256: the key's chunk is the token's or one of the two before it, and lies in the prompt. -/
def Sees (T : Fin 2048) (n : Fin 256) : Prop :=
  T.val % 128 / 64 ≤ n.val / 64 ∧ n.val / 64 ≤ T.val % 128 / 64 + 2 ∧ 2 ≤ 2 * (T.val / 128) + n.val / 64

instance (T : Fin 2048) (n : Fin 256) : Decidable (Sees T n) := by unfold Sees; infer_instance

/-- The score of token `T`'s head `h` against its block's key `n`. -/
def score (q : FVec Ideal S16x2048x1024 .f32) (k : FVec Ideal S16x2048x256 .f32) (b : Fin 16) (T : Fin 2048) (h : Fin 16) (n : Fin 256) : EReal :=
  if Sees T n then
    (∑ d : Fin 64, k (ix3 b (keyRow ⟨T.val / 128, by omega⟩ n) ⟨64 * (h.val / 4) + d.val, by omega⟩) * q (ix3 b T ⟨64 * h.val + d.val, by omega⟩))
      * Ideal.ofBits .f32 0x3E000000#32
  else ⊥

/-- The kernel's array, at batch `b`, token `T` and lane `l`. -/
def attn (q : FVec Ideal S16x2048x1024 .f32) (k v : FVec Ideal S16x2048x256 .f32) (σ : FVec Ideal S16 .f32) (b : Fin 16) (T : Fin 2048)
    (l : Fin 1024) : EReal :=
  Cert.SinkSoftmax.mix (score q k b T ⟨l.val / 64, by omega⟩) (σ (ix1 ⟨l.val / 64, by omega⟩))
    (fun n => v (ix3 b (keyRow ⟨T.val / 128, by omega⟩ n) ⟨64 * (l.val / 64 / 4) + l.val % 64, by omega⟩))

/-- The same as an array of the program's. -/
def attnArr (c : Dev nD) : Buf (Elt Ideal) ((c : Thread nD τ).loc main_v0) := fun i =>
  attn (m ((c : Thread nD τ).loc main_arg0)) (m ((c : Thread nD τ).loc main_arg1)) (m ((c : Thread nD τ).loc main_arg2))
    (m ((c : Thread nD τ).loc main_arg3)) (i 0) (i 1) (i 2)

/-- A point's block is the array's at its tokens. -/
theorem block_apply (c : Dev nD) (t : Fin cfg0.N) (r : Fin 128) (l : Fin 1024) :
    headMix (seen (BitVec.ofNat 32 (grid0.coords t 1).val)) (k0_pay4 (iblk m c 1 t))
        (k0_pay5 (iblk m c 2 t) (iblk m c 3 t) (iblk m c 4 t) (iblk m c 5 t))
        (k0_pay6 (iblk m c 6 t) (iblk m c 7 t) (iblk m c 8 t) (iblk m c 9 t)) (iblk m c 0 t) r l
      = attn (m ((c : Thread nD τ).loc main_arg0)) (m ((c : Thread nD τ).loc main_arg1)) (m ((c : Thread nD τ).loc main_arg2))
          (m ((c : Thread nD τ).loc main_arg3)) ⟨(grid0.coords t 0).val, (grid0.coords t 0).isLt⟩
          ⟨128 * (grid0.coords t 1).val + r.val, by have : (grid0.coords t 1).val < 16 := (grid0.coords t 1).isLt; omega⟩ l := by
  have hc : (grid0.coords t 1).val < 16 := (grid0.coords t 1).isLt
  have e : (⟨(128 * (grid0.coords t 1).val + r.val) / 128, by omega⟩ : Fin 16) = ⟨(grid0.coords t 1).val, hc⟩ := Fin.ext (by
    show (128 * (grid0.coords t 1).val + r.val) / 128 = (grid0.coords t 1).val; omega)
  unfold headMix attn
  rw [s_block]
  have hs : headScore (seen (BitVec.ofNat 32 (grid0.coords t 1).val)) (k0_pay4 (iblk m c 1 t))
      (k0_pay5 (iblk m c 2 t) (iblk m c 3 t) (iblk m c 4 t) (iblk m c 5 t)) r ⟨l.val / 64, by omega⟩
      = score (m ((c : Thread nD τ).loc main_arg0)) (m ((c : Thread nD τ).loc main_arg1)) ⟨(grid0.coords t 0).val, (grid0.coords t 0).isLt⟩
          ⟨128 * (grid0.coords t 1).val + r.val, by omega⟩ ⟨l.val / 64, by omega⟩ := funext fun n => by
    have hseen : (seen (BitVec.ofNat 32 (grid0.coords t 1).val) (ix2 n r) = 1#1)
        ↔ Sees ⟨128 * (grid0.coords t 1).val + r.val, by omega⟩ n := by
      rw [seen_apply ⟨(grid0.coords t 1).val, hc⟩ n r]
      have hr := r.isLt
      have e1 : (128 * (grid0.coords t 1).val + r.val) % 128 = r.val := by omega
      have e2 : (128 * (grid0.coords t 1).val + r.val) / 128 = (grid0.coords t 1).val := by omega
      simp only [Sees, e1, e2]
      split_ifs with h <;> simp [h]
    unfold headScore score
    rw [if_congr hseen rfl rfl]
    simp only [e, q_block, k_block]
  rw [hs]
  simp only [e, v_block]

/-- The array after the run. -/
theorem final (c : Dev nD) : (dats m 0 c).arrAt 10 cfg0.N = attnArr m c := by
  refine (dats m 0 c).arrAt_eq_of_covers 10 _ (by decide +kernel) fun t hf y => ?_
  refine (congrFun (flushed_eq m c t) y).trans ((block_apply m c t (y 1) (y 2)).trans ?_)
  have h0 : (y 0 : Nat) < 1 := (y 0).isLt
  unfold attnArr
  have e0 : ((((cfg0.win 10).blk t).view.emb y) 0 : Nat) = (grid0.coords t 0).val := by blk_simp [idx10 t]
  have e1 : ((((cfg0.win 10).blk t).view.emb y) 1 : Nat) = 128 * (grid0.coords t 1).val + (y 1).val := by blk_simp [idx10 t]; omega
  have e2 : ((((cfg0.win 10).blk t).view.emb y) 2 : Nat) = (y 2).val := by blk_simp [idx10 t]
  have key : ∀ (b b' : Fin 16) (T T' : Fin 2048) (l l' : Fin 1024), b.val = b'.val → T.val = T'.val → l.val = l'.val →
      attn (m ((c : Thread nD τ).loc main_arg0)) (m ((c : Thread nD τ).loc main_arg1)) (m ((c : Thread nD τ).loc main_arg2))
          (m ((c : Thread nD τ).loc main_arg3)) b T l
        = attn (m ((c : Thread nD τ).loc main_arg0)) (m ((c : Thread nD τ).loc main_arg1)) (m ((c : Thread nD τ).loc main_arg2))
          (m ((c : Thread nD τ).loc main_arg3)) b' T' l' := by
    intro b b' T T' l l' hb hT hl
    obtain rfl := Fin.ext hb
    obtain rfl := Fin.ext hT
    obtain rfl := Fin.ext hl
    rfl
  exact key _ _ _ _ _ _ e0.symm e1.symm e2.symm

/-- The kernel runs: its result is `attnArr`, its arguments are kept. -/
theorem run : θ_run defs (onTc (τ := τ) (main (F := Ideal))) ⟨m, fun _ => 0, ρ⟩ fun r => ∀ c : Dev nD,
      r.2.mem ((c : Thread nD τ).loc main_v0) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.AttnIdeal.RefValue

end
-- ==== Proof.AttnRefRun.lean ====
/- The reference's run, read in four stretches: the bands of keys and values, the masked scores with the sink behind them, the
   exponentials, and the mixed values. -/
module

public import proofs.«01_k».proof.Proof.Gen.AttnRefIdeal
public import Idealize.ShloMosaic.Lib.StableHlo.RunHlo
public import Idealize.ShloMosaic.Lib.Pipeline.Frame
public import Idealize.ShloMosaic.PureOps.Ideal.Laws

@[expose] public section

set_option maxRecDepth 16384

noncomputable section

open Idealize.ShloMosaic Idealize.ShloMosaic.TcCoe Idealize.SL.Sem Idealize.ShloMosaic.StableHlo

namespace Cert.AttnRefIdeal.Stages

open Cert.AttnRefIdeal Cert.AttnRefIdeal.Gen

/-! ## The stretches as functions -/

/-- An array of 2048 tokens as chunks of 64, with two chunks of zero in front. -/
def padded (x : FVec Ideal S16x2048x256 .f32) : FVec Ideal S16x34x64x4x64 .f32 :=
  pad S16x34x64x4x64 ![0, 2, 0, 0, 0] ![0, 0, 0, 0, 0] ![0, 0, 0, 0, 0]
    (shapeCast S16x32x64x4x64 (shapeCast S16x2048x4x64 x shapeCasts_S16x2048x256_S16x2048x4x64) shapeCasts_S16x2048x4x64_S16x32x64x4x64)
    (sitofp .f32 (constantI S_ 32 0#32)) pads_S16x32x64x4x64_S16x34x64x4x64_000_200_000_000_000 h_S_

/-- Each chunk but the first two, with the two chunks before it in front. -/
def windows (y : FVec Ideal S16x34x64x4x64 .f32) : FVec Ideal S16x32x192x4x64 .f32 :=
  concatenate S16x32x192x4x64 2
    [⟨S16x32x64x4x64, extractStridedSlice S16x32x64x4x64 ![0, 0, 0, 0, 0] y slices_S16x34x64x4x64_S16x32x64x4x64_0_0_0_0_0⟩,
     ⟨S16x32x64x4x64, extractStridedSlice S16x32x64x4x64 ![0, 1, 0, 0, 0] y slices_S16x34x64x4x64_S16x32x64x4x64_0_1_0_0_0⟩,
     ⟨S16x32x64x4x64, extractStridedSlice S16x32x64x4x64 ![0, 2, 0, 0, 0] y slices_S16x34x64x4x64_S16x32x64x4x64_0_2_0_0_0⟩]
    concatenates_S16x32x64x4x64_S16x32x64x4x64_S16x32x64x4x64_S16x32x192x4x64_d2

/-- An array of 2048 tokens as 32 chunks of 64, each with the two chunks before it in front (zeros before the first). -/
def band (x : FVec Ideal S16x2048x256 .f32) : FVec Ideal S16x32x192x4x64 .f32 := windows (padded x)

/-- The queries in chunks, by groups of four heads. -/
def queries (q : FVec Ideal S16x2048x1024 .f32) : FVec Ideal S16x32x64x4x4x64 .f32 :=
  shapeCast S16x32x64x4x4x64 (shapeCast S16x32x64x16x64 (shapeCast S16x2048x16x64 q shapeCasts_S16x2048x1024_S16x2048x16x64)
    shapeCasts_S16x2048x16x64_S16x32x64x16x64) shapeCasts_S16x32x64x16x64_S16x32x64x4x4x64

/-- The distance in chunks of a band's key, minus two to zero. -/
def offsets : IVec S192 32 :=
  shapeCast S192 (broadcastInDim S3x64 ![0] bcast_S3_S3x64_0
    (subi (iotaInDim S3 32 0) (broadcastInDim S3 ![] bcast_S_S3 (constantI S_ 32 2#32)))) shapeCasts_S3x64_S192

/-- Which of a band's keys lie in the prompt. -/
def present : IVec S1x32x1x1x1x192 1 :=
  broadcastInDim S1x32x1x1x1x192 ![1, 5] bcast_S32x192_S1x32x1x1x1x192_1_5
    (cmpi .sge
      (addi
        (broadcastInDim S32x192 ![0, 1] bcast_S32x1_S32x192_0_1 (broadcastInDim S32x1 ![0] bcast_S32_S32x1_0 (iotaInDim S32 32 0)))
        (broadcastInDim S32x192 ![0, 1] bcast_S1x192_S32x192_0_1 (broadcastInDim S1x192 ![1] bcast_S192_S1x192_1 offsets)))
      (broadcastInDim S32x192 ![] bcast_S_S32x192 (constantI S_ 32 0#32)))

/-- The scaled scores of a band, −∞ at the keys before the prompt. -/
def masked (kb : FVec Ideal S16x32x192x4x64 .f32) (q : FVec Ideal S16x32x64x4x4x64 .f32) : FVec Ideal S16x32x4x4x64x192 .f32 :=
  select (broadcastInDim S16x32x4x4x64x192 ![0, 1, 2, 3, 4, 5] bcast_S1x32x1x1x1x192_S16x32x4x4x64x192_0_1_2_3_4_5 present)
    (mulf
      (transpose S16x32x4x4x64x192 [0, 1, 2, 5, 4, 3]
        (Host.dotGeneral dot_S16x32x192x4x64_S16x32x64x4x4x64_S16x32x4x192x64x4_4_5_2_24_013_013 none kb q)
        transposes_S16x32x4x192x64x4_S16x32x4x4x64x192_0_1_2_5_4_3)
      (broadcastInDim S16x32x4x4x64x192 ![] bcast_S_S16x32x4x4x64x192 (constant S_ .f32 0x3E000000#32)))
    (broadcastInDim S16x32x4x4x64x192 ![] bcast_S_S16x32x4x4x64x192 (constant S_ .f32 0xFF800000#32))

/-- The scores with each head's sink behind them. -/
def withSink (s : FVec Ideal S16x32x4x4x64x192 .f32) (σ : FVec Ideal S16 .f32) : FVec Ideal S16x32x4x4x64x193 .f32 :=
  concatenate S16x32x4x4x64x193 5
    [⟨S16x32x4x4x64x192, s⟩,
     ⟨S16x32x4x4x64x1, broadcastInDim S16x32x4x4x64x1 ![2, 3, 4, 5] bcast_S4x4x1x1_S16x32x4x4x64x1_2_3_4_5
       (shapeCast S4x4x1x1 σ shapeCasts_S16_S4x4x1x1)⟩]
    concatenates_S16x32x4x4x64x192_S16x32x4x4x64x1_S16x32x4x4x64x193_d5

/-- Each token's largest score. -/
def largest (s : FVec Ideal S16x32x4x4x64x193 .f32) : FVec Ideal S16x32x4x4x64 .f32 :=
  Host.reduce FloatOps.maximumf s (constant S_ .f32 0xFF800000#32) reducesTo_S16x32x4x4x64x193_S16x32x4x4x64_d5 h_S_

/-- Each token's total of the exponentials. -/
def totals (e : FVec Ideal S16x32x4x4x64x193 .f32) : FVec Ideal S16x32x4x4x64 .f32 :=
  Host.reduceAdd e (constant S_ .f32 0x00000000#32) reducesTo_S16x32x4x4x64x193_S16x32x4x4x64_d5 h_S_

/-- The exponentials of the scores less `L`, one to a token. -/
def expsLess (s : FVec Ideal S16x32x4x4x64x193 .f32) (L : FVec Ideal S16x32x4x4x64 .f32) : FVec Ideal S16x32x4x4x64x193 .f32 :=
  Host.exp (subf s
    (broadcastInDim S16x32x4x4x64x193 ![0, 1, 2, 3, 4, 5] bcast_S16x32x4x4x64x1_S16x32x4x4x64x193_0_1_2_3_4_5
      (broadcastInDim S16x32x4x4x64x1 ![0, 1, 2, 3, 4] bcast_S16x32x4x4x64_S16x32x4x4x64x1_0_1_2_3_4
        (maximumf (broadcastInDim S16x32x4x4x64 ![] bcast_S_S16x32x4x4x64 (constant S_ .f32 0xFF800000#32)) L))))

/-- The exponentials of the scores less their largest. -/
def exps (s : FVec Ideal S16x32x4x4x64x193 .f32) : FVec Ideal S16x32x4x4x64x193 .f32 := expsLess s (largest s)

/-- The values mixed by the exponentials over their total. -/
def mixedValues (vb : FVec Ideal S16x32x192x4x64 .f32) (e : FVec Ideal S16x32x4x4x64x193 .f32) : FVec Ideal S16x2048x1024 .f32 :=
  shapeCast S16x2048x1024 (transpose S16x32x64x4x4x64 [0, 1, 5, 2, 4, 3]
    (Host.dotGeneral dot_S16x32x192x4x64_S16x32x4x4x64x192_S16x32x4x64x4x64_2_5_4_34_013_012 none vb
      (extractStridedSlice S16x32x4x4x64x192 ![0, 0, 0, 0, 0, 0]
        (Host.divf e
          (broadcastInDim S16x32x4x4x64x193 ![0, 1, 2, 3, 4, 5] bcast_S16x32x4x4x64x1_S16x32x4x4x64x193_0_1_2_3_4_5
            (broadcastInDim S16x32x4x4x64x1 ![0, 1, 2, 3, 4] bcast_S16x32x4x4x64_S16x32x4x4x64x1_0_1_2_3_4
              (totals e))))
        slices_S16x32x4x4x64x193_S16x32x4x4x64x192_0_0_0_0_0_0))
    transposes_S16x32x4x64x4x64_S16x32x64x4x4x64_0_1_5_2_4_3) shapeCasts_S16x32x64x4x4x64_S16x2048x1024

/-! ## The operations, and what each stretch leaves -/

/-- The reference's operations in order, with the proof that they are its `main`. -/
def line : {ops : List (HloOp τ sig (Elt Ideal)) // ∀ d : Dev nD, IsSeq (main d) ops} := by
  apply Subtype.mk
  hlo_seq

/-- The first stretch: the bands. -/
def opsA : List (HloOp τ sig (Elt Ideal)) := line.1.take 20
/-- The second stretch: the scores with the sink. -/
def opsB : List (HloOp τ sig (Elt Ideal)) := (line.1.drop 20).take 30
/-- The third stretch: the exponentials. -/
def opsC : List (HloOp τ sig (Elt Ideal)) := (line.1.drop 50).take 9
/-- The last stretch: the mixed values. -/
def opsD : List (HloOp τ sig (Elt Ideal)) := line.1.drop 59

variable (V : Valuation τ sig (Elt Ideal))

/-- The first stretch leaves the band of the keys. -/
theorem bandK_A : after opsA V (Proc.devRef .tc main_v9) = band (V (Proc.devRef .tc main_arg1)) := by
  simp only [opsA, line, List.drop_succ_cons, List.drop_zero, List.take_succ_cons, List.take_zero, TRef.binary, TRef.ternary, TRef.unary, TRef.toBuf,
    TRef.ofBuf, cast_eq]
  after_results_simp
  rfl

/-- The first stretch leaves the band of the values. -/
theorem bandV_A : after opsA V (Proc.devRef .tc main_v15) = band (V (Proc.devRef .tc main_arg2)) := by
  simp only [opsA, line, List.drop_succ_cons, List.drop_zero, List.take_succ_cons, List.take_zero, TRef.binary, TRef.ternary, TRef.unary, TRef.toBuf,
    TRef.ofBuf, cast_eq]
  after_results_simp
  rfl

/-- The first stretch leaves the queries in chunks. -/
theorem v3_A : after opsA V (Proc.devRef .tc main_v3) = shapeCast S16x32x64x16x64 (shapeCast S16x2048x16x64 (V (Proc.devRef .tc main_arg0)) shapeCasts_S16x2048x1024_S16x2048x16x64) shapeCasts_S16x2048x16x64_S16x32x64x16x64 := by
  simp only [opsA, line, List.drop_succ_cons, List.drop_zero, List.take_succ_cons, List.take_zero, TRef.binary, TRef.ternary, TRef.unary, TRef.toBuf,
    TRef.ofBuf, cast_eq]
  after_results_simp
  rfl

/-- The second stretch leaves the scores with the sinks. -/
theorem v38_B : after opsB V (Proc.devRef .tc main_v38) = withSink (masked (V (Proc.devRef .tc main_v9)) (shapeCast S16x32x64x4x4x64 (V (Proc.devRef .tc main_v3)) shapeCasts_S16x32x64x16x64_S16x32x64x4x4x64)) (V (Proc.devRef .tc main_arg3)) := by
  simp only [opsB, line, List.drop_succ_cons, List.drop_zero, List.take_succ_cons, List.take_zero, TRef.binary, TRef.ternary, TRef.unary, TRef.toBuf,
    TRef.ofBuf, cast_eq]
  after_results_simp
  rfl

/-- The third stretch leaves the exponentials. -/
theorem v45_C : after opsC V (Proc.devRef .tc main_v45) = exps (V (Proc.devRef .tc main_v38)) := by
  simp only [opsC, line, List.drop_succ_cons, List.drop_zero, List.take_succ_cons, List.take_zero, TRef.binary, TRef.ternary, TRef.unary, TRef.toBuf,
    TRef.ofBuf, cast_eq]
  after_results_simp
  rfl

/-- The last stretch leaves the mixed values. -/
theorem v53_D : after opsD V (Proc.devRef .tc main_v53) = mixedValues (V (Proc.devRef .tc main_v15)) (V (Proc.devRef .tc main_v45)) := by
  simp only [opsD, line, List.drop_succ_cons, List.drop_zero, List.take_succ_cons, List.take_zero, TRef.binary, TRef.ternary, TRef.unary, TRef.toBuf,
    TRef.ofBuf, cast_eq]
  after_results_simp
  rfl

/-- `main_arg0` is kept. -/
theorem keep_arg0_A : after opsA V (Proc.devRef .tc main_arg0) = V (Proc.devRef .tc main_arg0) := by
  simp only [opsA, line, List.drop_succ_cons, List.drop_zero, List.take_succ_cons, List.take_zero, TRef.binary, TRef.ternary, TRef.unary, TRef.toBuf,
    TRef.ofBuf, cast_eq]
  after_results_simp

/-- `main_arg1` is kept. -/
theorem keep_arg1_A : after opsA V (Proc.devRef .tc main_arg1) = V (Proc.devRef .tc main_arg1) := by
  simp only [opsA, line, List.drop_succ_cons, List.drop_zero, List.take_succ_cons, List.take_zero, TRef.binary, TRef.ternary, TRef.unary, TRef.toBuf,
    TRef.ofBuf, cast_eq]
  after_results_simp

/-- `main_arg2` is kept. -/
theorem keep_arg2_A : after opsA V (Proc.devRef .tc main_arg2) = V (Proc.devRef .tc main_arg2) := by
  simp only [opsA, line, List.drop_succ_cons, List.drop_zero, List.take_succ_cons, List.take_zero, TRef.binary, TRef.ternary, TRef.unary, TRef.toBuf,
    TRef.ofBuf, cast_eq]
  after_results_simp

/-- `main_arg3` is kept. -/
theorem keep_arg3_A : after opsA V (Proc.devRef .tc main_arg3) = V (Proc.devRef .tc main_arg3) := by
  simp only [opsA, line, List.drop_succ_cons, List.drop_zero, List.take_succ_cons, List.take_zero, TRef.binary, TRef.ternary, TRef.unary, TRef.toBuf,
    TRef.ofBuf, cast_eq]
  after_results_simp

/-- `main_v15` is kept. -/
theorem keep_v15_B : after opsB V (Proc.devRef .tc main_v15) = V (Proc.devRef .tc main_v15) := by
  simp only [opsB, line, List.drop_succ_cons, List.drop_zero, List.take_succ_cons, List.take_zero, TRef.binary, TRef.ternary, TRef.unary, TRef.toBuf,
    TRef.ofBuf, cast_eq]
  after_results_simp

/-- `main_arg0` is kept. -/
theorem keep_arg0_B : after opsB V (Proc.devRef .tc main_arg0) = V (Proc.devRef .tc main_arg0) := by
  simp only [opsB, line, List.drop_succ_cons, List.drop_zero, List.take_succ_cons, List.take_zero, TRef.binary, TRef.ternary, TRef.unary, TRef.toBuf,
    TRef.ofBuf, cast_eq]
  after_results_simp

/-- `main_arg1` is kept. -/
theorem keep_arg1_B : after opsB V (Proc.devRef .tc main_arg1) = V (Proc.devRef .tc main_arg1) := by
  simp only [opsB, line, List.drop_succ_cons, List.drop_zero, List.take_succ_cons, List.take_zero, TRef.binary, TRef.ternary, TRef.unary, TRef.toBuf,
    TRef.ofBuf, cast_eq]
  after_results_simp

/-- `main_arg2` is kept. -/
theorem keep_arg2_B : after opsB V (Proc.devRef .tc main_arg2) = V (Proc.devRef .tc main_arg2) := by
  simp only [opsB, line, List.drop_succ_cons, List.drop_zero, List.take_succ_cons, List.take_zero, TRef.binary, TRef.ternary, TRef.unary, TRef.toBuf,
    TRef.ofBuf, cast_eq]
  after_results_simp

/-- `main_arg3` is kept. -/
theorem keep_arg3_B : after opsB V (Proc.devRef .tc main_arg3) = V (Proc.devRef .tc main_arg3) := by
  simp only [opsB, line, List.drop_succ_cons, List.drop_zero, List.take_succ_cons, List.take_zero, TRef.binary, TRef.ternary, TRef.unary, TRef.toBuf,
    TRef.ofBuf, cast_eq]
  after_results_simp

/-- `main_v15` is kept. -/
theorem keep_v15_C : after opsC V (Proc.devRef .tc main_v15) = V (Proc.devRef .tc main_v15) := by
  simp only [opsC, line, List.drop_succ_cons, List.drop_zero, List.take_succ_cons, List.take_zero, TRef.binary, TRef.ternary, TRef.unary, TRef.toBuf,
    TRef.ofBuf, cast_eq]
  after_results_simp

/-- `main_arg0` is kept. -/
theorem keep_arg0_C : after opsC V (Proc.devRef .tc main_arg0) = V (Proc.devRef .tc main_arg0) := by
  simp only [opsC, line, List.drop_succ_cons, List.drop_zero, List.take_succ_cons, List.take_zero, TRef.binary, TRef.ternary, TRef.unary, TRef.toBuf,
    TRef.ofBuf, cast_eq]
  after_results_simp

/-- `main_arg1` is kept. -/
theorem keep_arg1_C : after opsC V (Proc.devRef .tc main_arg1) = V (Proc.devRef .tc main_arg1) := by
  simp only [opsC, line, List.drop_succ_cons, List.drop_zero, List.take_succ_cons, List.take_zero, TRef.binary, TRef.ternary, TRef.unary, TRef.toBuf,
    TRef.ofBuf, cast_eq]
  after_results_simp

/-- `main_arg2` is kept. -/
theorem keep_arg2_C : after opsC V (Proc.devRef .tc main_arg2) = V (Proc.devRef .tc main_arg2) := by
  simp only [opsC, line, List.drop_succ_cons, List.drop_zero, List.take_succ_cons, List.take_zero, TRef.binary, TRef.ternary, TRef.unary, TRef.toBuf,
    TRef.ofBuf, cast_eq]
  after_results_simp

/-- `main_arg3` is kept. -/
theorem keep_arg3_C : after opsC V (Proc.devRef .tc main_arg3) = V (Proc.devRef .tc main_arg3) := by
  simp only [opsC, line, List.drop_succ_cons, List.drop_zero, List.take_succ_cons, List.take_zero, TRef.binary, TRef.ternary, TRef.unary, TRef.toBuf,
    TRef.ofBuf, cast_eq]
  after_results_simp

/-- `main_arg0` is kept. -/
theorem keep_arg0_D : after opsD V (Proc.devRef .tc main_arg0) = V (Proc.devRef .tc main_arg0) := by
  simp only [opsD, line, List.drop_succ_cons, List.drop_zero, List.take_succ_cons, List.take_zero, TRef.binary, TRef.ternary, TRef.unary, TRef.toBuf,
    TRef.ofBuf, cast_eq]
  after_results_simp

/-- `main_arg1` is kept. -/
theorem keep_arg1_D : after opsD V (Proc.devRef .tc main_arg1) = V (Proc.devRef .tc main_arg1) := by
  simp only [opsD, line, List.drop_succ_cons, List.drop_zero, List.take_succ_cons, List.take_zero, TRef.binary, TRef.ternary, TRef.unary, TRef.toBuf,
    TRef.ofBuf, cast_eq]
  after_results_simp

/-- `main_arg2` is kept. -/
theorem keep_arg2_D : after opsD V (Proc.devRef .tc main_arg2) = V (Proc.devRef .tc main_arg2) := by
  simp only [opsD, line, List.drop_succ_cons, List.drop_zero, List.take_succ_cons, List.take_zero, TRef.binary, TRef.ternary, TRef.unary, TRef.toBuf,
    TRef.ofBuf, cast_eq]
  after_results_simp

/-- `main_arg3` is kept. -/
theorem keep_arg3_D : after opsD V (Proc.devRef .tc main_arg3) = V (Proc.devRef .tc main_arg3) := by
  simp only [opsD, line, List.drop_succ_cons, List.drop_zero, List.take_succ_cons, List.take_zero, TRef.binary, TRef.ternary, TRef.unary, TRef.toBuf,
    TRef.ofBuf, cast_eq]
  after_results_simp

/-- The four stretches are the line. -/
theorem line_eq : line.1 = opsA ++ (opsB ++ (opsC ++ opsD)) := rfl

/-- The mixed values as a function of the queries, keys, values and sinks. -/
def out (q : FVec Ideal S16x2048x1024 .f32) (k v : FVec Ideal S16x2048x256 .f32) (σ : FVec Ideal S16 .f32) : FVec Ideal S16x2048x1024 .f32 :=
  mixedValues (band v) (exps (withSink (masked (band k) (queries q)) σ))

/-- The line leaves the attention's result. -/
theorem out_line : after line.1 V (Proc.devRef .tc main_v53) = out (V (Proc.devRef .tc main_arg0)) (V (Proc.devRef .tc main_arg1))
    (V (Proc.devRef .tc main_arg2)) (V (Proc.devRef .tc main_arg3)) := by
  rw [line_eq, after_append, after_append, after_append, v53_D, v45_C, keep_v15_C, v38_B, keep_v15_B, bandK_A, bandV_A, v3_A, keep_arg3_A]
  rfl

/-- The line keeps `main_arg0`. -/
theorem keep_arg0 : after line.1 V (Proc.devRef .tc main_arg0) = V (Proc.devRef .tc main_arg0) := by
  rw [line_eq, after_append, after_append, after_append, keep_arg0_D, keep_arg0_C, keep_arg0_B, keep_arg0_A]

/-- The line keeps `main_arg1`. -/
theorem keep_arg1 : after line.1 V (Proc.devRef .tc main_arg1) = V (Proc.devRef .tc main_arg1) := by
  rw [line_eq, after_append, after_append, after_append, keep_arg1_D, keep_arg1_C, keep_arg1_B, keep_arg1_A]

/-- The line keeps `main_arg2`. -/
theorem keep_arg2 : after line.1 V (Proc.devRef .tc main_arg2) = V (Proc.devRef .tc main_arg2) := by
  rw [line_eq, after_append, after_append, after_append, keep_arg2_D, keep_arg2_C, keep_arg2_B, keep_arg2_A]

/-- The line keeps `main_arg3`. -/
theorem keep_arg3 : after line.1 V (Proc.devRef .tc main_arg3) = V (Proc.devRef .tc main_arg3) := by
  rw [line_eq, after_append, after_append, after_append, keep_arg3_D, keep_arg3_C, keep_arg3_B, keep_arg3_A]

/-- The reference runs: its result is `out` of the arguments, which it keeps. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v53).trans (out_line _), (h c main_arg0).trans (keep_arg0 _),
      (h c main_arg1).trans (keep_arg1 _), (h c main_arg2).trans (keep_arg2 _), (h c main_arg3).trans (keep_arg3 _)⟩)
    (run_hlo defs main line.2 (by decide) (by decide) (by simp [line])
      (by intro _ h; simp only [line] at h; (repeat (cases h with | head => rfl | tail _ h => ?_)); exact nomatch h) m ρ)

end Cert.AttnRefIdeal.Stages

end
-- ==== Proof.AttnRefBand.lean ====
/- The reference's bands of keys and values read at an index. -/
module

public import proofs.«01_k».proof.Proof.AttnRefRun
public import Idealize.ShloMosaic.Lib.ValueIdx
public import Idealize.ShloMosaic.Lib.ValueIdxRank6
public import Idealize.ShloMosaic.Lib.Pointwise

@[expose] public section

set_option maxRecDepth 16384

noncomputable section

open Idealize.ShloMosaic Idealize.ShloMosaic.TcCoe Idealize.SL.Sem

namespace Cert.AttnRefIdeal.Stages

open Cert.AttnRefIdeal Cert.AttnRefIdeal.Gen

/-- The integer zero as a float is zero. -/
theorem zero_word : (FloatOps.sitofp (F := Ideal) .f32 0#32 : EReal) = 0 := by
  show (((0#32 : BitVec 32).toInt : ℝ) : EReal) = 0
  simp

/-- A token of chunk `e` of the padded array: zero in the first two chunks. -/
theorem padded_apply (x : FVec Ideal S16x2048x256 .f32) (b : Fin 16) (e : Fin 34) (r : Fin 64) (g : Fin 4) (d : Fin 64) :
    padded x (ix5 b e r g d) = if h : 2 ≤ e.val then
      x (ix3 b ⟨64 * (e.val - 2) + r.val, by omega⟩ ⟨64 * g.val + d.val, by omega⟩) else (0 : EReal) := by
  have he := e.isLt
  have key : ∀ (T T' : Fin 2048) (l l' : Fin 256), T.val = T'.val → l.val = l'.val → x (ix3 b T l) = x (ix3 b T' l') := by
    intro T T' l l' hT hl
    rw [Fin.ext hT, Fin.ext hl]
  unfold padded
  pointwise
  by_cases h : 2 ≤ e.val
  · have hA : 2 ≤ e.val ∧ e.val - 2 < 32 := by omega
    rw [dif_pos h, dif_pos hA]
    refine key _ _ _ _ ?_ ?_
    · show (e.val - 2) * 64 + r.val = 64 * (e.val - 2) + r.val
      omega
    · show g.val * 64 + d.val = 64 * g.val + d.val
      omega
  · have hA : ¬(2 ≤ e.val ∧ e.val - 2 < 32) := by omega
    rw [dif_neg h, dif_neg hA]
    exact zero_word

/-- Key `n` of chunk `c`'s window is a token of chunk `c + n / 64`. -/
theorem windows_apply (y : FVec Ideal S16x34x64x4x64 .f32) (b : Fin 16) (c : Fin 32) (n : Fin 192) (g : Fin 4) (d : Fin 64) :
    windows y (ix5 b c n g d) = y (ix5 b ⟨c.val + n.val / 64, by omega⟩ ⟨n.val % 64, by omega⟩ g d) := by
  have hn := n.isLt
  have hc := c.isLt
  have key : ∀ (e e' : Fin 34) (r r' : Fin 64), e.val = e'.val → r.val = r'.val → y (ix5 b e r g d) = y (ix5 b e' r' g d) := by
    intro e e' r r' h1 h2
    rw [Fin.ext h1, Fin.ext h2]
  unfold windows
  pointwise
  by_cases h0 : n.val < 64
  · rw [dif_pos h0]
    exact key _ _ _ _ (by show c.val = c.val + n.val / 64; omega) (by show n.val = n.val % 64; omega)
  by_cases h1 : n.val - 64 < 64
  · rw [dif_neg h0, dif_pos h1]
    exact key _ _ _ _ (by show 1 + c.val = c.val + n.val / 64; omega) (by show n.val - 64 = n.val % 64; omega)
  rw [dif_neg h0, dif_neg h1]
  exact key _ _ _ _ (by show 2 + c.val = c.val + n.val / 64; omega) (by show n.val - 64 - 64 = n.val % 64; omega)

/-- A band's key `n` in chunk `c`: the key of the chunk `n / 64 - 2` chunks on, zero before the prompt. -/
theorem band_apply (x : FVec Ideal S16x2048x256 .f32) (b : Fin 16) (c : Fin 32) (n : Fin 192) (g : Fin 4) (d : Fin 64) :
    band x (ix5 b c n g d) = if h : 2 ≤ c.val + n.val / 64 then
      x (ix3 b ⟨64 * (c.val + n.val / 64 - 2) + n.val % 64, by omega⟩ ⟨64 * g.val + d.val, by omega⟩) else (0 : EReal) :=
  (windows_apply (padded x) b c n g d).trans (padded_apply x b _ _ g d)

end Cert.AttnRefIdeal.Stages

end
-- ==== Proof.AttnRefRead.lean ====
/- The reference's result read at an index: the mixed values of a token's head over the 192 keys of its band and its sink. -/
module

public import proofs.«01_k».proof.Proof.AttnRefRun
public import proofs.«01_k».proof.Proof.AttnRefBand
public import Idealize.ShloMosaic.Lib.ValueIdx
public import Idealize.ShloMosaic.Lib.ValueIdxRank6
public import Idealize.ShloMosaic.Lib.Pointwise

@[expose] public section

set_option maxRecDepth 16384

noncomputable section

open Idealize.ShloMosaic Idealize.ShloMosaic.TcCoe Idealize.SL.Sem

namespace Cert.AttnRefIdeal.Stages

open Cert.AttnRefIdeal Cert.AttnRefIdeal.Gen

/-- The queries by chunk, group and head of the group. -/
theorem queries_apply (q : FVec Ideal S16x2048x1024 .f32) (b : Fin 16) (c : Fin 32) (r : Fin 64) (g j : Fin 4) (d : Fin 64) :
    queries q (ix6 b c r g j d)
      = q (ix3 b ⟨64 * c.val + r.val, by omega⟩ ⟨64 * (4 * g.val + j.val) + d.val, by omega⟩) := by
  unfold queries
  pointwise
  have key : ∀ (T T' : Fin 2048) (l l' : Fin 1024), T.val = T'.val → l.val = l'.val → q (ix3 b T l) = q (ix3 b T' l') := by
    intro T T' l l' hT hl
    rw [Fin.ext hT, Fin.ext hl]
  refine key _ _ _ _ ?_ ?_
  · show c.val * 64 + r.val = 64 * c.val + r.val
    omega
  · show g.val * 256 + j.val * 64 + d.val = 64 * (4 * g.val + j.val) + d.val
    omega

/-- The word of a key's presence, over the 32 chunks and the three chunks of a band. -/
theorem present_word : ∀ (c : Fin 32) (k : Fin 3),
    IntOp.cmpi CmpIPredicate.sge (IntOp.addi (BitVec.ofNat 32 c.val) (IntOp.subi (BitVec.ofNat 32 k.val) 2#32)) 0#32
      = if 2 ≤ c.val + k.val then 1#1 else 0#1 := by decide +kernel

/-- A band's key lies in the prompt when its chunk does. -/
theorem present_apply (c : Fin 32) (n : Fin 192) :
    present (ix6 0 c 0 0 0 n) = if 2 ≤ c.val + n.val / 64 then 1#1 else 0#1 := by
  unfold present offsets
  pointwise
  exact present_word c ⟨n.val / 64, by omega⟩

/-- The word of −∞. -/
theorem bot_word : Ideal.ofBits .f32 0xFF800000#32 = ⊥ := by simp [Ideal.ofBits, Ideal.ieee]

/-- A masked score. -/
theorem masked_apply (kb : FVec Ideal S16x32x192x4x64 .f32) (q : FVec Ideal S16x32x64x4x4x64 .f32) (b : Fin 16) (c : Fin 32) (g j : Fin 4)
    (r : Fin 64) (n : Fin 192) :
    masked kb q (ix6 b c g j r n) = if 2 ≤ c.val + n.val / 64 then
      (∑ d : Fin 64, kb (ix5 b c n g d) * q (ix6 b c r g j d)) * Ideal.ofBits .f32 0x3E000000#32 else ⊥ := by
  unfold masked
  pointwise [dot_S16x32x192x4x64_S16x32x64x4x4x64_S16x32x4x192x64x4_4_5_2_24_013_013]
  rw [present_apply, bot_word]
  by_cases h : 2 ≤ c.val + n.val / 64
  · rw [if_pos h, if_pos h]; rfl
  · rw [if_neg h, if_neg h]; rfl

/-- The scores with the sink behind them. -/
theorem withSink_apply (s : FVec Ideal S16x32x4x4x64x192 .f32) (σ : FVec Ideal S16 .f32) (b : Fin 16) (c : Fin 32) (g j : Fin 4)
    (r : Fin 64) (n : Fin 193) :
    withSink s σ (ix6 b c g j r n) = if h : n.val < 192 then s (ix6 b c g j r ⟨n.val, h⟩) else σ (ix1 ⟨4 * g.val + j.val, by omega⟩) := by
  unfold withSink
  pointwise
  by_cases h : n.val < 192
  · rw [dif_pos h, dif_pos h]
  · rw [dif_neg h, dif_neg h]
    exact congrArg σ (congrArg ix1 (Fin.ext (by show g.val * 4 + j.val = 4 * g.val + j.val; omega)))

/-- The last axis dropped. -/
theorem drop5 : S16x32x4x4x64x193.Reduces [5] S16x32x4x4x64 := by decide

/-- The index of a score over its token's. -/
theorem lift5 (b : Fin 16) (c : Fin 32) (g j : Fin 4) (r : Fin 64) (n : Fin 193) :
    drop5.lift (ix5 b c g j r) n = ix6 b c g j r n := funext fun a => by fin_cases a <;> rfl

/-- A token's largest score. -/
theorem largest_apply (s : FVec Ideal S16x32x4x4x64x193 .f32) (b : Fin 16) (c : Fin 32) (g j : Fin 4) (r : Fin 64) :
    largest s (ix5 b c g j r) = (Finset.univ : Finset (Fin 193)).fold max ⊥ (fun n => s (ix6 b c g j r n)) := by
  refine (Host.reduce_eq_fold_single _ s _ reducesTo_S16x32x4x4x64x193_S16x32x4x4x64_d5 drop5 h_S_ (ix5 b c g j r)).trans ?_
  exact (congrArg (fun z => (Finset.univ : Finset (Fin 193)).fold max z (s ∘ drop5.lift (ix5 b c g j r))) bot_word).trans
    (congrArg ((Finset.univ : Finset (Fin 193)).fold max ⊥) (funext fun n => congrArg s (lift5 b c g j r n)))

/-- A token's total. -/
theorem totals_apply (e : FVec Ideal S16x32x4x4x64x193 .f32) (b : Fin 16) (c : Fin 32) (g j : Fin 4) (r : Fin 64) :
    totals e (ix5 b c g j r) = ∑ n : Fin 193, e (ix6 b c g j r n) := by
  refine (Ideal.hostReduceAdd_single reducesTo_S16x32x4x4x64x193_S16x32x4x4x64_d5 drop5 e _ (ix5 b c g j r)).trans ?_
  exact (congrArg₂ (· + ·) (show Ideal.ofBits .f32 0x00000000#32 = (0 : EReal) from Ideal.ofBits_zero_f32)
    (Finset.sum_congr rfl fun n _ => congrArg e (lift5 b c g j r n))).trans (zero_add _)

/-- An exponential, of a score less `L`. -/
theorem expsLess_apply (s : FVec Ideal S16x32x4x4x64x193 .f32) (L : FVec Ideal S16x32x4x4x64 .f32) (b : Fin 16) (c : Fin 32) (g j : Fin 4)
    (r : Fin 64) (n : Fin 193) :
    expsLess s L (ix6 b c g j r n) = Ideal.exp (s (ix6 b c g j r n) - L (ix5 b c g j r)) := by
  unfold expsLess
  pointwise
  rw [bot_word, bot_sup_eq]

/-- An exponential. -/
theorem exps_apply (s : FVec Ideal S16x32x4x4x64x193 .f32) (b : Fin 16) (c : Fin 32) (g j : Fin 4)
    (r : Fin 64) (n : Fin 193) :
    exps s (ix6 b c g j r n) = Ideal.exp (s (ix6 b c g j r n) - (Finset.univ : Finset (Fin 193)).fold max ⊥ (fun n => s (ix6 b c g j r n))) :=
  (expsLess_apply s (largest s) b c g j r n).trans (congrArg (fun z => Ideal.exp (s (ix6 b c g j r n) - z)) (largest_apply s b c g j r))

/-- The mixed values. -/
theorem mixed_apply (vb : FVec Ideal S16x32x192x4x64 .f32) (e : FVec Ideal S16x32x4x4x64x193 .f32) (b : Fin 16) (T : Fin 2048) (l : Fin 1024) :
    mixedValues vb e (ix3 b T l) = ∑ n : Fin 192, vb (ix5 b ⟨T.val / 64, by omega⟩ n ⟨l.val / 256, by omega⟩ ⟨l.val % 64, by omega⟩)
      * Ideal.div (e (ix6 b ⟨T.val / 64, by omega⟩ ⟨l.val / 256, by omega⟩ ⟨l.val / 64 % 4, by omega⟩ ⟨T.val % 64, by omega⟩ ⟨n.val, by omega⟩))
          (∑ n : Fin 193, e (ix6 b ⟨T.val / 64, by omega⟩ ⟨l.val / 256, by omega⟩ ⟨l.val / 64 % 4, by omega⟩ ⟨T.val % 64, by omega⟩ n)) := by
  unfold mixedValues
  pointwise [dot_S16x32x192x4x64_S16x32x4x4x64x192_S16x32x4x64x4x64_2_5_4_34_013_012]
  exact Finset.sum_congr rfl fun n _ => congrArg₂ (· * ·) rfl (congrArg (Ideal.div _) (totals_apply _ _ _ _ _ _))

end Cert.AttnRefIdeal.Stages

end
-- ==== Proof.AttnValue.lean ====
/- The kernel's result and the reference's are the same array of mixed values, where queries, keys and sinks are finite. -/
module

public import proofs.«01_k».proof.Proof.AttnArray
public import proofs.«01_k».proof.Proof.AttnRefRead

@[expose] public section

set_option maxRecDepth 16384

noncomputable section

open Idealize.ShloMosaic Idealize.ShloMosaic.TcCoe Idealize.SL.Sem

namespace Cert.AttnEq

open Cert.AttnRefIdeal Cert.AttnRefIdeal.Gen Cert.AttnRefIdeal.Stages
open Cert.SinkSoftmax
open Cert.AttnIdeal.RefValue (keyRow Sees score attn)

/-- A real number. -/
def IsReal (x : EReal) : Prop := x ≠ ⊥ ∧ x ≠ ⊤

/-- A product of real numbers is real. -/
theorem real_mul {x y : EReal} (hx : IsReal x) (hy : IsReal y) : IsReal (x * y) := by
  lift x to ℝ using ⟨hx.2, hx.1⟩
  lift y to ℝ using ⟨hy.2, hy.1⟩
  rw [← EReal.coe_mul]
  exact ⟨EReal.coe_ne_bot _, EReal.coe_ne_top _⟩

/-- A sum of real numbers is real. -/
theorem real_sum {n : Nat} (f : Fin n → EReal) (hf : ∀ j, IsReal (f j)) : IsReal (∑ j, f j) := by
  have h : ∀ j, ∃ r : ℝ, f j = (r : EReal) := fun j => ⟨(f j).toReal, (EReal.coe_toReal (hf j).2 (hf j).1).symm⟩
  choose g hg using h
  rw [Finset.sum_congr rfl fun j _ => hg j]
  have e : (∑ j, ((g j : ℝ) : EReal)) = ((∑ j, g j : ℝ) : EReal) := by
    induction (Finset.univ : Finset (Fin n)) using Finset.induction_on with
    | empty => simp
    | insert a s ha ih => rw [Finset.sum_insert ha, Finset.sum_insert ha, ih, EReal.coe_add]
  rw [e]
  exact ⟨EReal.coe_ne_bot _, EReal.coe_ne_top _⟩

/-- The scale is real. -/
theorem real_scale : IsReal (Ideal.ofBits .f32 0x3E000000#32) := by
  have e : Ideal.ofBits .f32 0x3E000000#32 = ((8388608 * (2 ^ 26)⁻¹ : ℝ) : EReal) := by simp [Ideal.ofBits, Ideal.ieee]
  rw [e]
  exact ⟨EReal.coe_ne_bot _, EReal.coe_ne_top _⟩

section Token

variable (q : FVec Ideal S16x2048x1024 .f32) (k v : FVec Ideal S16x2048x256 .f32) (σ : FVec Ideal S16 .f32)
variable (b : Fin 16) (T : Fin 2048) (l : Fin 1024)

/-- The score of a key of the token's band. -/
def bandScore (n : Fin 192) : EReal :=
  masked (band k) (queries q) (ix6 b ⟨T.val / 64, by omega⟩ ⟨l.val / 256, by omega⟩ ⟨l.val / 64 % 4, by omega⟩ ⟨T.val % 64, by omega⟩ n)

/-- The value of a key of the token's band. -/
def bandValue (n : Fin 192) : EReal :=
  band v (ix5 b ⟨T.val / 64, by omega⟩ n ⟨l.val / 256, by omega⟩ ⟨l.val % 64, by omega⟩)

/-- The reference's result is a sink softmax over the token's band. -/
theorem out_eq_mix : out q k v σ (ix3 b T l) = mix (bandScore q k b T l) (σ (ix1 ⟨l.val / 64, by omega⟩)) (bandValue v b T l) := by
  unfold out
  refine (mixed_apply _ _ b T l).trans ?_
  have hσ : σ (ix1 ⟨4 * (l.val / 256) + l.val / 64 % 4, by omega⟩) = σ (ix1 ⟨l.val / 64, by omega⟩) :=
    congrArg σ (congrArg ix1 (Fin.ext (by show 4 * (l.val / 256) + l.val / 64 % 4 = l.val / 64; omega)))
  have hf : ∀ n : Fin 192, withSink (masked (band k) (queries q)) σ (ix6 b ⟨T.val / 64, by omega⟩ ⟨l.val / 256, by omega⟩ ⟨l.val / 64 % 4, by omega⟩
      ⟨T.val % 64, by omega⟩ (Fin.castSucc n)) = bandScore q k b T l n :=
    fun n => (withSink_apply _ σ b _ _ _ _ (Fin.castSucc n)).trans (dif_pos n.isLt)
  have hl : withSink (masked (band k) (queries q)) σ (ix6 b ⟨T.val / 64, by omega⟩ ⟨l.val / 256, by omega⟩ ⟨l.val / 64 % 4, by omega⟩
      ⟨T.val % 64, by omega⟩ (Fin.last 192)) = σ (ix1 ⟨l.val / 64, by omega⟩) :=
    ((withSink_apply _ σ b _ _ _ _ (Fin.last 192)).trans (dif_neg (lt_irrefl 192))).trans hσ
  have hx : ∀ n : Fin 193, exps (withSink (masked (band k) (queries q)) σ) (ix6 b ⟨T.val / 64, by omega⟩ ⟨l.val / 256, by omega⟩
      ⟨l.val / 64 % 4, by omega⟩ ⟨T.val % 64, by omega⟩ n)
      = Ideal.exp (withSink (masked (band k) (queries q)) σ (ix6 b ⟨T.val / 64, by omega⟩ ⟨l.val / 256, by omega⟩
          ⟨l.val / 64 % 4, by omega⟩ ⟨T.val % 64, by omega⟩ n) - top (bandScore q k b T l) (σ (ix1 ⟨l.val / 64, by omega⟩))) :=
    fun n => (exps_apply _ b _ _ _ _ n).trans (congrArg (fun z => Ideal.exp (_ - z)) (fold_snoc _ _ _ hf hl))
  have ht := (Finset.sum_congr rfl fun n _ => hx n).trans (sum_snoc _ _ _ hf hl)
  unfold mix
  refine Finset.sum_congr rfl fun n _ => ?_
  refine (mul_comm _ _).trans (congrArg₂ (· * ·) ?_ rfl)
  exact congrArg₂ Ideal.div ((hx (Fin.castSucc n)).trans (congrArg (fun z => Ideal.exp (z - _)) (hf n))) ht

/-- The place of a band's key among the 256 keys of the token's block. -/
def place (n : Fin 192) : Fin 256 := ⟨64 * (T.val % 128 / 64) + n.val, by omega⟩

/-- Two keys of a band lie at two places. -/
theorem place_injective : Function.Injective (place T) := fun n n' h => by
  have := congrArg Fin.val h
  exact Fin.ext (by simp only [place] at this; omega)

/-- Keys outside the band are not seen. -/
theorem not_sees (i : Fin 256) (hi : i ∉ Set.range (place T)) : ¬ Sees T i := by
  rintro ⟨h1, h2, h3⟩
  apply hi
  refine ⟨⟨i.val - 64 * (T.val % 128 / 64), by omega⟩, Fin.ext ?_⟩
  simp only [place]; omega

/-- A key of the band is seen when it lies in the prompt. -/
theorem sees_iff (n : Fin 192) : Sees T (place T n) ↔ 2 ≤ T.val / 64 + n.val / 64 := by
  unfold Sees place
  have := T.isLt; have := n.isLt
  simp only
  constructor
  · rintro ⟨h1, h2, h3⟩; omega
  · intro h; refine ⟨?_, ?_, ?_⟩ <;> omega

/-- The row of a key of the band. -/
theorem keyRow_place (n : Fin 192) (h : 2 ≤ T.val / 64 + n.val / 64) :
    keyRow ⟨T.val / 128, by omega⟩ (place T n) = ⟨64 * (T.val / 64 + n.val / 64 - 2) + n.val % 64, by omega⟩ := by
  apply Fin.ext
  simp only [keyRow, place]
  omega

/-- A key has the same score in the band and in the block. -/
theorem score_place (n : Fin 192) : score q k b T ⟨l.val / 64, by omega⟩ (place T n) = bandScore q k b T l n := by
  unfold score bandScore
  refine Eq.trans ?_ (masked_apply _ _ b _ _ _ _ n).symm
  by_cases h : 2 ≤ T.val / 64 + n.val / 64
  · rw [if_pos ((sees_iff T n).2 h), keyRow_place T n h]
    refine Eq.trans ?_ (if_pos h).symm
    refine congrArg₂ (· * ·) (Finset.sum_congr rfl fun d _ => congrArg₂ (· * ·) ?_ ?_) rfl
    · refine Eq.trans ?_ ((band_apply k b _ n _ d).trans (dif_pos h)).symm
      exact congrArg k (congrArg (ix3 b _) (Fin.ext (by show 64 * (l.val / 64 / 4) + d.val = 64 * (l.val / 256) + d.val; omega)))
    · refine Eq.trans ?_ (queries_apply q b _ _ _ _ d).symm
      exact congrArg q (congrArg₂ (ix3 b) (Fin.ext (by show T.val = 64 * (T.val / 64) + T.val % 64; omega))
        (Fin.ext (by show 64 * (l.val / 64) + d.val = 64 * (4 * (l.val / 256) + l.val / 64 % 4) + d.val; omega)))
  · rw [if_neg (fun hs => h ((sees_iff T n).1 hs))]
    exact (if_neg h).symm

/-- A seen key has the same value in the band and in the block. -/
theorem value_place (n : Fin 192) (h : 2 ≤ T.val / 64 + n.val / 64) :
    bandValue v b T l n = v (ix3 b (keyRow ⟨T.val / 128, by omega⟩ (place T n)) ⟨64 * (l.val / 64 / 4) + l.val % 64, by omega⟩) := by
  unfold bandValue
  rw [keyRow_place T n h]
  refine ((band_apply v b _ n _ _).trans (dif_pos h)).trans ?_
  exact congrArg v (congrArg (ix3 b _) (Fin.ext (by show 64 * (l.val / 256) + l.val % 64 = 64 * (l.val / 64 / 4) + l.val % 64; omega)))

/-- Where queries, keys and sinks are finite, the kernel's token is the reference's. -/
theorem attn_eq_out (hq : ∀ i, IsReal (q i)) (hk : ∀ i, IsReal (k i)) (hσ : ∀ i, IsReal (σ i)) :
    attn q k v σ b T l = out q k v σ (ix3 b T l) := by
  rw [out_eq_mix]
  unfold attn
  have hs : ∀ n, score q k b T ⟨l.val / 64, by omega⟩ n ≠ ⊤ := by
    intro n
    unfold score
    by_cases h : Sees T n
    · rw [if_pos h]
      exact (real_mul (real_sum _ fun d => real_mul (hk _) (hq _)) real_scale).2
    · rw [if_neg h]; exact bot_ne_top
  rw [show bandScore q k b T l = fun n => score q k b T ⟨l.val / 64, by omega⟩ (place T n) from funext fun n => (score_place q k b T l n).symm]
  refine (mix_restrict (place T) (place_injective T) (score q k b T ⟨l.val / 64, by omega⟩) _ _ _ ?_ ?_ ?_ ?_).symm
  · intro i hi
    unfold score
    exact if_neg (not_sees T i hi)
  · intro n
    by_cases h : 2 ≤ T.val / 64 + n.val / 64
    · exact Or.inr (value_place v b T l n h)
    · left
      unfold score
      exact if_neg fun hs => h ((sees_iff T n).1 hs)
  · intro hb
    exact (hσ _).1 (le_bot_iff.1 ((le_top_sink _ _).trans hb.le))
  · exact top_ne_top _ _ hs (hσ _).2

end Token

end Cert.AttnEq

end
-- ==== Proof.AttnClaims.lean ====
/- The claims about the attention: its frames, its named mask, and the equation with the reference. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.AttnValue

@[expose] public section

set_option maxRecDepth 16384

noncomputable section

open Idealize.ShloMosaic Idealize.ShloMosaic.TcCoe Idealize.SL.Sem

namespace Cert.AttnClaims

open Cert.AttnEq (IsReal)

/-- The side conditions of the precondition. -/
theorem pre_facts : Cert.Pre_finite.Facts := ⟨by decide, by decide, by decide⟩

/-- The word of ∞. -/
theorem top_word : Ideal.ofBits .f32 0x7F800000#32 = ⊤ := by simp [Ideal.ofBits, Ideal.ieee]

/-- A number whose absolute value lies below ∞ is real. -/
theorem isReal_of_lt (x : EReal) (h : Ideal.cmp .olt (max x (-x)) (Ideal.ofBits .f32 0x7F800000#32) = 1#1) : IsReal x := by
  rw [top_word] at h
  have hlt : max x (-x) < ⊤ := by
    by_contra hn
    simp [Ideal.cmp, hn] at h
  exact ⟨fun e => absurd hlt (by rw [e]; simp), fun e => absurd hlt (by rw [e]; simp)⟩

/-- Where the precondition holds, queries, keys and sinks are real. -/
theorem real_of_pre [hP : Cert.Pre_finite.Facts] (q : FVec Ideal Cert.Pre_finite.S16x2048x1024 .f32) (k v : FVec Ideal Cert.Pre_finite.S16x2048x256 .f32)
    (σ : FVec Ideal Cert.Pre_finite.S16 .f32)
    (h : (Cert.Pre_finite.fn q k v σ).1 = (fun _ => 1#1) ∧ (Cert.Pre_finite.fn q k v σ).2.1 = (fun _ => 1#1)
      ∧ (Cert.Pre_finite.fn q k v σ).2.2 = (fun _ => 1#1)) : (∀ i, IsReal (q i)) ∧ (∀ i, IsReal (k i)) ∧ ∀ i, IsReal (σ i) :=
  ⟨fun i => isReal_of_lt (q i) (congrFun h.1 i), fun i => isReal_of_lt (k i) (congrFun h.2.1 i), fun i => isReal_of_lt (σ i) (congrFun h.2.2 i)⟩

/-- The attention's frame. -/
theorem frame_P : Cert.quiescent_Attn := fun m ρ _ => Cert.Attn.Gen.frame m ρ
/-- Its idealization's frame, -/
theorem frame_PI : Cert.quiescent_AttnIdeal := fun m ρ _ => Cert.AttnIdeal.Gen.frame m ρ
/-- and under the precondition. -/
theorem frame_PI_pre [hP : Cert.Pre_finite.Facts] : Cert.quiescent_AttnIdeal_pre_finite := fun m ρ _ => Cert.AttnIdeal.Gen.frame m ρ
/-- The reference's frame, -/
theorem frame_RI : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Stages.run m ρ)
/-- and under the precondition. -/
theorem frame_RI_pre [hP : Cert.Pre_finite.Facts] : Cert.quiescent_AttnRefIdeal_pre_finite := fun m ρ _ => frame_RI m ρ trivial

/-- The idealization names the mask −∞ and changes nothing else. -/
theorem preserves : Cert.preserves_Attn_AttnIdeal := IdealRules.named_const.statement Cert.AttnIdeal.κ "mask" .f32 0xF149F2CA#32 ⊥ rfl

/-- The kernel's result is the reference's. -/
theorem algebraic [hP : Cert.Pre_finite.Facts] : Cert.algebraic_AttnIdeal_AttnRefIdeal_pre_finite := by
  intro m ρ m' ρ' hpre hagree
  refine ⟨fun c => Cert.AttnIdeal.RefValue.attnArr m c, Cert.AttnIdeal.RefValue.run m ρ, ?_⟩
  refine (θ_run Cert.AttnRefIdeal.defs _ _).mono (fun _ h c => ⟨(h c).1.trans ?_, (h c).2⟩) (Cert.AttnRefIdeal.Stages.run m' ρ')
  obtain ⟨hq, hk, hσ⟩ := real_of_pre _ _ _ _ (hpre c)
  rw [(hagree c).1, (hagree c).2.1, (hagree c).2.2.1, (hagree c).2.2.2]
  funext i
  refine (congrArg _ (?_ : i = ix3 (i 0) (i 1) (i 2))).trans (Cert.AttnEq.attn_eq_out _ _ _ _ (i 0) (i 1) (i 2) hq hk hσ).symm
  funext a
  fin_cases a <;> rfl

end Cert.AttnClaims

end
-- ==== Proof.RowMath.lean ====
/- Rows of a layer over the extended reals: a row over its root mean square, a row times a matrix, the weights of a row of
   scores, and attention over a memory of 256 keys in four heads of 128 lanes. -/
module

public import Idealize.ShloMosaic.PureOps.Ideal.Laws

@[expose] public section

noncomputable section

open Idealize.ShloMosaic

namespace Cert.RowMath

/-- A row over its root mean square (the mean of the squares plus a small constant), times a gain. -/
def rms (x g : Fin 2048 → EReal) (k : Fin 2048) : EReal :=
  x k * Ideal.rsqrt (Ideal.div (∑ j, x j * x j) (Ideal.ofBits .f32 0x45000000#32) + Ideal.ofBits .f32 0x358637BD#32) * g k

/-- A row times a matrix. -/
def lin {n p : Nat} (x : Fin n → EReal) (w : Fin n → Fin p → EReal) (k : Fin p) : EReal := ∑ j, x j * w j k

/-- The largest score of a row. -/
def top (s : Fin 256 → EReal) : EReal := Finset.univ.fold max (Ideal.ofBits .f32 0xFF800000#32) s

/-- The weights of a row of scores: exponentials of the scores less the largest, over their sum. -/
def soft (s : Fin 256 → EReal) (n : Fin 256) : EReal :=
  Ideal.div (Ideal.exp (s n - top s)) (∑ j, Ideal.exp (s j - top s))

/-- A head's scores: the products over the 128 lanes from `o`, scaled. -/
def score (q : Fin 512 → EReal) (mk : Fin 256 → Fin 512 → EReal) (o : Nat) (ho : o + 128 ≤ 512) (n : Fin 256) : EReal :=
  (∑ d : Fin 128, q ⟨o + d.val, by omega⟩ * mk n ⟨o + d.val, by omega⟩) * Ideal.ofBits .f32 0x3DB504F3#32

/-- Lane `l` of the values, mixed by the weights of head `l / 128`. -/
def cross (q : Fin 512 → EReal) (mk mv : Fin 256 → Fin 512 → EReal) (l : Fin 512) : EReal :=
  ∑ n, soft (score q mk (128 * (l.val / 128)) (by omega)) n * mv n l

/-- The largest score is no smaller than what the largest of none would be. -/
theorem max_top (s : Fin 256 → EReal) : max (Ideal.ofBits .f32 0xFF800000#32) (top s) = top s :=
  max_eq_right (Finset.le_fold_max (Ideal.ofBits .f32 0xFF800000#32) |>.2 (Or.inl le_rfl))

/-- The lanes of one head. -/
theorem cross_at (q : Fin 512 → EReal) (mk mv : Fin 256 → Fin 512 → EReal) (o : Nat) (ho : o + 128 ≤ 512) (hd : 128 ∣ o) (l : Fin 512)
    (h1 : o ≤ l.val) (h2 : l.val < o + 128) : cross q mk mv l = ∑ n, soft (score q mk o ho) n * mv n l := by
  obtain rfl : o = 128 * (l.val / 128) := by omega
  rfl

/-- What a layer's middle part is given besides its rows. -/
structure Weights where
  /-- The projection out of the mixers. -/
  wo : Fin 2048 → Fin 2048 → EReal
  /-- The gain before the cross attention. -/
  gc : Fin 2048 → EReal
  /-- The projection to queries. -/
  wcq : Fin 2048 → Fin 512 → EReal
  /-- The memory's keys. -/
  keys : Fin 256 → Fin 512 → EReal
  /-- The memory's values. -/
  vals : Fin 256 → Fin 512 → EReal
  /-- The projection out of the cross attention. -/
  wco : Fin 512 → Fin 2048 → EReal
  /-- The gain after it. -/
  gf : Fin 2048 → EReal
  /-- The projection to the experts' queries. -/
  wq : Fin 2048 → Fin 2048 → EReal

/-- A row after the mixers. -/
def after (W : Weights) (x : Fin 2048 → EReal) (u v : Fin 1024 → EReal) (k : Fin 2048) : EReal :=
  x k + (∑ j, u j * W.wo ⟨j.val, by omega⟩ k) + ∑ j, v j * W.wo ⟨1024 + j.val, by omega⟩ k

/-- A row with the cross attention added. -/
def attend (W : Weights) (h : Fin 2048 → EReal) (k : Fin 2048) : EReal :=
  h k + lin (cross (lin (rms h W.gc) W.wcq) W.keys W.vals) W.wco k

/-- The row the middle part leaves. -/
def leaves (W : Weights) (x : Fin 2048 → EReal) (u v : Fin 1024 → EReal) : Fin 2048 → EReal := attend W (after W x u v)

/-- The row it leaves, normalised. -/
def normed (W : Weights) (x : Fin 2048 → EReal) (u v : Fin 1024 → EReal) : Fin 2048 → EReal := rms (leaves W x u v) W.gf

/-- The experts' queries of the row. -/
def queries (W : Weights) (x : Fin 2048 → EReal) (u v : Fin 1024 → EReal) : Fin 2048 → EReal := lin (normed W x u v) W.wq

end Cert.RowMath

end
-- ==== Proof.RopeMath.lean ====
/- The rotation of a head's first sixteen lanes by a position's angles, and the gate, over the extended reals. -/
module

public import Idealize.ShloMosaic.PureOps.Ideal.Laws

@[expose] public section

noncomputable section

open Idealize.ShloMosaic

namespace Cert.RopeMath

/-- The angle of position `t` and frequency `d`. -/
def angle (t : Fin 2048) (d : Fin 8) : EReal :=
  FloatOps.sitofp (F := Ideal) .f32 (BitVec.ofNat 32 t.val) *
    Ideal.pow (Ideal.ofBits .f32 0x48F42400#32)
      (Ideal.div (-(Ideal.ofBits .f32 0x40000000#32 * FloatOps.sitofp (F := Ideal) .f32 (BitVec.ofNat 32 d.val))) (Ideal.ofBits .f32 0x41800000#32))

/-- A row's columns, each head of 64 rotated at position `t`: the first eight lanes of a head with the eight behind them. -/
def rope (f : Fin 3584 → EReal) (t : Fin 2048) (c : Fin 3584) : EReal :=
  if _ : c.val % 64 < 8 then
    f c * Ideal.cos (angle t ⟨c.val % 8, by omega⟩) - f ⟨c.val + 8, by omega⟩ * Ideal.sin (angle t ⟨c.val % 8, by omega⟩)
  else if _ : c.val % 64 < 16 then
    f c * Ideal.cos (angle t ⟨c.val % 8, by omega⟩) + f ⟨c.val - 8, by omega⟩ * Ideal.sin (angle t ⟨c.val % 8, by omega⟩)
  else f c

/-- The table of cosines. -/
def cosTab (t : Fin 2048) (l : Fin 128) : EReal := if l.val % 64 < 16 then Ideal.cos (angle t ⟨l.val % 8, by omega⟩) else 1

/-- The table of sines for the lanes that take the half before them. -/
def upTab (t : Fin 2048) (l : Fin 128) : EReal := if 8 ≤ l.val % 64 ∧ l.val % 64 < 16 then Ideal.sin (angle t ⟨l.val % 8, by omega⟩) else 0

/-- The table of sines for the lanes that take the half behind them. -/
def dnTab (t : Fin 2048) (l : Fin 128) : EReal := if l.val % 64 < 8 then -Ideal.sin (angle t ⟨l.val % 8, by omega⟩) else 0

/-- A row's columns, each stretch of 128 mixed with itself turned by eight lanes either way, by three tables. -/
def swing (f : Fin 3584 → EReal) (p u d : Fin 128 → EReal) (c : Fin 3584) : EReal :=
  f c * p ⟨c.val % 128, by omega⟩ + f ⟨128 * (c.val / 128) + (c.val + 120) % 128, by omega⟩ * u ⟨c.val % 128, by omega⟩
    + f ⟨128 * (c.val / 128) + (c.val + 8) % 128, by omega⟩ * d ⟨c.val % 128, by omega⟩

/-- By the tables of a position, that is the rotation. -/
theorem swing_eq_rope (f : Fin 3584 → EReal) (t : Fin 2048) (c : Fin 3584) : swing f (cosTab t) (upTab t) (dnTab t) c = rope f t c := by
  have e64 : c.val % 128 % 64 = c.val % 64 := by omega
  have e8 : c.val % 128 % 8 = c.val % 8 := by omega
  unfold swing rope cosTab upTab dnTab
  simp only [e64, e8]
  by_cases h1 : c.val % 64 < 8
  · have h3 : ¬ (8 ≤ c.val % 64 ∧ c.val % 64 < 16) := by omega
    have h2 : c.val % 64 < 16 := by omega
    have e : 128 * (c.val / 128) + (c.val + 8) % 128 = c.val + 8 := by omega
    simp only [dif_pos h1, if_pos h1, if_pos h2, if_neg h3, mul_zero, add_zero, mul_neg, e, sub_eq_add_neg]
  · by_cases h2 : c.val % 64 < 16
    · have h3 : 8 ≤ c.val % 64 ∧ c.val % 64 < 16 := by omega
      have e : 128 * (c.val / 128) + (c.val + 120) % 128 = c.val - 8 := by omega
      simp only [dif_neg h1, dif_pos h2, if_neg h1, if_pos h2, if_pos h3, mul_zero, add_zero, e]
    · have h3 : ¬ (8 ≤ c.val % 64 ∧ c.val % 64 < 16) := by omega
      simp only [dif_neg h1, dif_neg h2, if_neg h1, if_neg h2, if_neg h3, mul_zero, add_zero, mul_one]

end Cert.RopeMath

end
-- ==== Proof.InProjBlock.lean ====
/- What one block of the input projections computes, read at an index: the normalised rows, the gate, the rotated stretches of 128
   columns, and the plain columns. -/
module

public import proofs.«01_k».proof.Proof.Gen.InProjIdeal.Value
public import proofs.«01_k».proof.Proof.RowMath
public import proofs.«01_k».proof.Proof.RopeMath
public import Idealize.ShloMosaic.Lib.ValueIdx
public import Idealize.ShloMosaic.Lib.Pointwise
public import Idealize.ShloMosaic.Lib.IdealHost
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem

namespace Cert.InProjIdeal.Block

open Cert.InProjIdeal Cert.InProjIdeal.Gen
open Cert.RowMath Cert.RopeMath

/-! ## The payloads -/

/-- The normalised rows of a block. -/
theorem pay4_apply (x : Vec Ideal S1x256x2048 .f32) (g : Vec Ideal S1x2048 .f32) (r : Fin 256) (k : Fin 2048) :
    k0_pay4 x g (ix2 r k) = rms (fun k => x (ix3 0 r k)) (fun k => g (ix2 0 k)) k := by
  unfold k0_pay4
  pointwise
  rfl

/-- The gate of a block's rows. -/
theorem pay5_apply (x : Vec Ideal S1x256x2048 .f32) (g : Vec Ideal S1x2048 .f32) (u v : Vec Ideal S2048x1024 .bf16) (r : Fin 256) (l : Fin 1024) :
    k0_pay5 x g u v (ix3 0 r l) = Ideal.div (lin (rms (fun k => x (ix3 0 r k)) (fun k => g (ix2 0 k))) (fun j l => u (ix2 j l)) l)
      (1 + Ideal.exp (-lin (rms (fun k => x (ix3 0 r k)) (fun k => g (ix2 0 k))) (fun j l => v (ix2 j l)) l)) := by
  unfold k0_pay5 lin
  pointwise [dot_S256x2048_S2048x1024_S256x1024_1_0_0_1_n_n]
  simp only [pay4_apply, Ideal.ofBits_one_f32, Ideal.ofBits_zero_f32, zero_sub]

/-- A block's plain columns. -/
theorem pay3_apply (xn : FVec Ideal S256x2048 .bf16) (w : Vec Ideal S2048x256 .bf16) (r l : Fin 256) :
    k0_pay3 xn w (ix3 0 r l) = lin (fun k => xn (ix2 r k)) (fun j l => w (ix2 j l)) l := by
  unfold k0_pay3 lin
  pointwise [dot_S256x2048_S2048x256_S256x256_1_0_0_1_n_n]

/-- A block's products with 256 columns. -/
theorem pay9_apply (xn : FVec Ideal S256x2048 .bf16) (w : Vec Ideal S2048x256 .bf16) (r l : Fin 256) :
    k0_pay9 xn w (ix2 r l) = lin (fun k => xn (ix2 r k)) (fun j l => w (ix2 j l)) l := by
  unfold k0_pay9 lin
  pointwise [dot_S256x2048_S2048x256_S256x256_1_0_0_1_n_n]

/-- The rotation of 128 of 256 columns, as the kernel composes it. -/
def turn (x : FVec Ideal S256x256 .f32) (p u d : Vec Ideal S256x128 .f32) (o : Nat) (h : S256x256.Slices ![0, o] S256x128) :
    FVec Ideal S1x256x128 .f32 :=
  shapeCast S1x256x128
    (addf (addf (mulf (extractStridedSlice S256x128 ![0, o] x h) (k0_pay6 p))
        (mulf (dynamicRotate 1 8#32 none (extractStridedSlice S256x128 ![0, o] x h) rotates_S256x128_d1) (k0_pay7 u)))
      (mulf (dynamicRotate 1 120#32 none (extractStridedSlice S256x128 ![0, o] x h) rotates_S256x128_d1) (k0_pay8 d)))
    shapeCasts_S256x128_S1x256x128

/-- It, at an index. -/
theorem turn_apply (x : FVec Ideal S256x256 .f32) (p u d : Vec Ideal S256x128 .f32) (o : Nat) (h : S256x256.Slices ![0, o] S256x128) (r : Fin 256)
    (l : Fin 128) (ho : o + 128 ≤ 256) :
    turn x p u d o h (ix3 0 r l) = x (ix2 r ⟨o + l.val, by omega⟩) * p (ix2 r l)
      + x (ix2 r ⟨o + (l.val + 120) % 128, by omega⟩) * u (ix2 r l) + x (ix2 r ⟨o + (l.val + 8) % 128, by omega⟩) * d (ix2 r l) := by
  unfold turn k0_pay6 k0_pay7 k0_pay8
  pointwise
  have e1 : l.val + 128 - 8 = l.val + 120 := by omega
  have e2 : l.val + 128 - 120 = l.val + 8 := by omega
  simp only [e1, e2]

/-! ## A block from the blocks it is computed of -/

section Out
variable (x0 : Vec Ideal S1x256x2048 .f32) (x1 : Vec Ideal S1x2048 .f32) (x2 : Vec Ideal S2048x3584 .bf16) (x3 x4 x5 : Vec Ideal S256x128 .f32)

/-- A whole block of rows, loaded. -/
theorem ld_x : View.ld x0 r0_0 = x0 :=
  View.ld_unit_zero (S := S1x256x2048) (Val := Elt Ideal) (e := .f32) (funext fun a => by fin_cases a <;> rfl) _ x0

/-- The gain, loaded. -/
theorem ld_g : View.ld x1 r0_1 = x1 :=
  View.ld_unit_zero (S := S1x2048) (Val := Elt Ideal) (e := .f32) (funext fun a => by fin_cases a <;> rfl) _ x1

/-- A table's block, loaded. -/
theorem ld_t : View.ld x3 r0_5 = x3 :=
  View.ld_unit_zero (S := S256x128) (Val := Elt Ideal) (e := .f32) (funext fun a => by fin_cases a <;> rfl) _ x3

/-- Columns of the projection, 256 of them loaded. -/
theorem ld_w (o : Nat) (ho : o + 256 ≤ 3584) (inb) (j : Fin 2048) (l : Fin 256) :
    View.ld (Val := Elt Ideal) (e' := .bf16) x2 (Rect.unit (s := S2048x3584) ![0, o] S2048x256.size inb) (ix2 j l) = x2 (ix2 j ⟨o + l.val, by omega⟩) :=
  View.ld_unit_apply_of _ _ _ _ _ _ fun a => by fin_cases a <;> simp [ix2]

/-- Columns of the projection, 1024 of them loaded. -/
theorem ld_half (o : Nat) (ho : o + 1024 ≤ 3584) (inb) (j : Fin 2048) (l : Fin 1024) :
    View.ld (Val := Elt Ideal) (e' := .bf16) x2 (Rect.unit (s := S2048x3584) ![0, o] S2048x1024.size inb) (ix2 j l) = x2 (ix2 j ⟨o + l.val, by omega⟩) :=
  View.ld_unit_apply_of _ _ _ _ _ _ fun a => by fin_cases a <;> simp [ix2]

/-- A row of the block times the whole projection. -/
def blockRow (r : Fin 256) (c : Fin 3584) : EReal := lin (rms (fun k => x0 (ix3 0 r k)) (fun k => x1 (ix2 0 k))) (fun j l => x2 (ix2 j l)) c

/-- The gate of two columns. -/
def gated (a b : EReal) : EReal := Ideal.div a (1 + Ideal.exp (-b))

/-- The normalised rows of the block. -/
theorem pay29_apply (r : Fin 256) (k : Fin 2048) :
    k0_pay29 x0 x1 x2 x3 x4 x5 (ix2 r k) = rms (fun k => x0 (ix3 0 r k)) (fun k => x1 (ix2 0 k)) k := by
  unfold k0_pay29
  rw [ld_x, ld_g]
  exact pay4_apply x0 x1 r k

/-- A product with columns of the projection is a column of the whole product. -/
theorem cols {n : Nat} (w : Fin 2048 → Fin n → EReal) (b : Nat) (hb : b + n ≤ 3584)
    (hw : ∀ j (l : Fin n), w j l = x2 (ix2 j ⟨b + l.val, by omega⟩)) (r : Fin 256) (l : Fin n) (c : Fin 3584) (hc : c.val = b + l.val) :
    lin (rms (fun k => x0 (ix3 0 r k)) (fun k => x1 (ix2 0 k))) w l = blockRow x0 x1 x2 r c := by
  exact Finset.sum_congr rfl fun j _ => congrArg _ ((hw j l).trans (congrArg (fun d => x2 (ix2 j d)) (Fin.ext hc.symm)))

/-- A stretch of 128 columns, rotated by the block's tables, at a row and a lane. -/
theorem turn_at (w : Vec Ideal S2048x256 .bf16) (b o : Nat) (ho : o + 128 ≤ 256) (hb : b + 256 ≤ 3584) (hm : (b + o) % 128 = 0)
    (hw : ∀ j (l : Fin 256), w (ix2 j l) = x2 (ix2 j ⟨b + l.val, by omega⟩)) (h : S256x256.Slices ![0, o] S256x128)
    (r : Fin 256) (l : Fin 128) (c : Fin 3584) (hc : c.val = b + o + l.val) :
    turn (k0_pay9 (k0_pay29 x0 x1 x2 x3 x4 x5) w) (View.ld x3 r0_5) (View.ld x4 r0_5) (View.ld x5 r0_5) o h (ix3 0 r l)
      = swing (blockRow x0 x1 x2 r) (fun l => x3 (ix2 r l)) (fun l => x4 (ix2 r l)) (fun l => x5 (ix2 r l)) c := by
  rw [ld_t, ld_t, ld_t, turn_apply _ x3 x4 x5 o h r l ho]
  have q (l' : Fin 256) (c' : Fin 3584) (hc' : c'.val = b + l'.val) :
      k0_pay9 (k0_pay29 x0 x1 x2 x3 x4 x5) w (ix2 r l') = blockRow x0 x1 x2 r c' :=
    (pay9_apply _ w r l').trans ((congrArg (fun f => lin f (fun j l => w (ix2 j l)) l') (funext fun k => pay29_apply x0 x1 x2 x3 x4 x5 r k)).trans
      (cols x0 x1 x2 (fun j l => w (ix2 j l)) b hb hw r l' c' hc'))
  have e : (⟨c.val % 128, by omega⟩ : Fin 128) = l := Fin.ext (by show c.val % 128 = l.val; omega)
  unfold swing
  rw [e, q ⟨o + l.val, by omega⟩ c (by show c.val = b + (o + l.val); omega),
    q ⟨o + (l.val + 120) % 128, by omega⟩ ⟨128 * (c.val / 128) + (c.val + 120) % 128, by omega⟩
      (by show 128 * (c.val / 128) + (c.val + 120) % 128 = b + (o + (l.val + 120) % 128); omega),
    q ⟨o + (l.val + 8) % 128, by omega⟩ ⟨128 * (c.val / 128) + (c.val + 8) % 128, by omega⟩
      (by show 128 * (c.val / 128) + (c.val + 8) % 128 = b + (o + (l.val + 8) % 128); omega)]

/-- The same at any index of the stretch. -/
theorem turn_block (w : Vec Ideal S2048x256 .bf16) (b o : Nat) (ho : o + 128 ≤ 256) (hb : b + 256 ≤ 3584) (hm : (b + o) % 128 = 0)
    (hw : ∀ j (l : Fin 256), w (ix2 j l) = x2 (ix2 j ⟨b + l.val, by omega⟩)) (h : S256x256.Slices ![0, o] S256x128) (x : S1x256x128.Idx)
    (r : Fin 256) (hr : r = x 1) (c : Fin 3584) (hc : c.val = b + o + (x 2).val) :
    turn (k0_pay9 (k0_pay29 x0 x1 x2 x3 x4 x5) w) (View.ld x3 r0_5) (View.ld x4 r0_5) (View.ld x5 r0_5) o h x
      = swing (blockRow x0 x1 x2 r) (fun l => x3 (ix2 r l)) (fun l => x4 (ix2 r l)) (fun l => x5 (ix2 r l)) c := by
  subst hr
  have hx : x = ix3 (0 : Fin 1) (x 1) (x 2) := funext fun a => by
    fin_cases a
    · exact Subsingleton.elim (α := Fin 1) _ _
    · rfl
    · rfl
  exact (congrArg _ hx).trans (turn_at x0 x1 x2 x3 x4 x5 w b o ho hb hm hw h (x 1) (x 2) c hc)

/-- A column of the block, rotated by the block's tables. -/
def swung (r : Fin 256) (c : Fin 3584) : EReal :=
  swing (blockRow x0 x1 x2 r) (fun l => x3 (ix2 r l)) (fun l => x4 (ix2 r l)) (fun l => x5 (ix2 r l)) c

/-- The block of queries to come. -/
def queries (y : S1x256x1024.Idx) : Elt Ideal .f32 :=
  swung x0 x1 x2 x3 x4 x5 (y 1) ⟨2048 + (y 2).val, by have : (y 2).val < 1024 := (y 2).isLt; omega⟩

/-- What a point leaves in its block of queries. -/
theorem out7_apply (y : S1x256x1024.Idx) :
    out0_7 x0 x1 x2 x3 x4 x5 y = queries x0 x1 x2 x3 x4 x5 y := by
  refine View.canon_apply_of_pieces
    (queries x0 x1 x2 x3 x4 x5)
    _ ?_ y (cover0_7 _ _ _ _ _ _ _ _ y)
  simp only [List.forall_mem_cons]
  have t (b o p : Nat) (ho : o + 128 ≤ 256) (hb : b + 256 ≤ 3584) (hm : (b + o) % 128 = 0) (hp : b + o = 2048 + p) (inw)
      (h : S256x256.Slices ![0, o] S256x128) (inb) (x : S1x256x128.Idx) :
      turn (k0_pay9 (k0_pay29 x0 x1 x2 x3 x4 x5) (View.ld (Val := Elt Ideal) (e' := .bf16) x2 (Rect.unit (s := S2048x3584) ![0, b] S2048x256.size inw)))
          (View.ld x3 r0_5) (View.ld x4 r0_5) (View.ld x5 r0_5) o h x
        = (queries x0 x1 x2 x3 x4 x5)
          ((Rect.unit (s := S1x256x1024) ![0, 0, p] S1x256x128.size inb).emb x) :=
    turn_block x0 x1 x2 x3 x4 x5 _ b o ho hb hm (ld_w x2 b hb inw) h x _ (Fin.ext (by simp [Rect.unit, Rect.emb])) _
      (by simp [Rect.unit, Rect.emb]; omega)
  have hi := slices_S256x256_o0_128_S256x128
  have lo := slices_S256x256_o0_0_S256x128
  refine ⟨fun x => t 2816 128 896 (by decide) (by decide) rfl rfl _ hi _ x, fun x => t 2816 0 768 (by decide) (by decide) rfl rfl _ lo _ x,
    fun x => t 2560 128 640 (by decide) (by decide) rfl rfl _ hi _ x, fun x => t 2560 0 512 (by decide) (by decide) rfl rfl _ lo _ x,
    fun x => t 2304 128 384 (by decide) (by decide) rfl rfl _ hi _ x, fun x => t 2304 0 256 (by decide) (by decide) rfl rfl _ lo _ x,
    fun x => t 2048 128 128 (by decide) (by decide) rfl rfl _ hi _ x, fun x => t 2048 0 0 (by decide) (by decide) rfl rfl _ lo _ x,
    fun _ h => nomatch h⟩

/-- The block of keys to come. -/
def keys (y : S1x256x256.Idx) : Elt Ideal .f32 :=
  swung x0 x1 x2 x3 x4 x5 (y 1) ⟨3072 + (y 2).val, by have : (y 2).val < 256 := (y 2).isLt; omega⟩

/-- What a point leaves in its block of keys. -/
theorem out8_apply (y : S1x256x256.Idx) : out0_8 x0 x1 x2 x3 x4 x5 y = keys x0 x1 x2 x3 x4 x5 y := by
  refine View.canon_apply_of_pieces (keys x0 x1 x2 x3 x4 x5) _ ?_ y (cover0_8 _ _ y)
  simp only [List.forall_mem_cons]
  have t (o : Nat) (ho : o + 128 ≤ 256) (hm : (3072 + o) % 128 = 0) (inw)
      (h : S256x256.Slices ![0, o] S256x128) (inb) (x : S1x256x128.Idx) :
      turn (k0_pay9 (k0_pay29 x0 x1 x2 x3 x4 x5) (View.ld (Val := Elt Ideal) (e' := .bf16) x2 (Rect.unit (s := S2048x3584) ![0, 3072] S2048x256.size inw)))
          (View.ld x3 r0_5) (View.ld x4 r0_5) (View.ld x5 r0_5) o h x
        = keys x0 x1 x2 x3 x4 x5 ((Rect.unit (s := S1x256x256) ![0, 0, o] S1x256x128.size inb).emb x) :=
    turn_block x0 x1 x2 x3 x4 x5 _ 3072 o ho (by decide) hm (ld_w x2 3072 (by decide) inw) h x _ (Fin.ext (by simp [Rect.unit, Rect.emb])) _
      (by simp [Rect.unit, Rect.emb]; omega)
  have hi := slices_S256x256_o0_128_S256x128
  have lo := slices_S256x256_o0_0_S256x128
  exact ⟨fun x => t 128 (by decide) rfl _ hi _ x, fun x => t 0 (by decide) rfl _ lo _ x, fun _ h => nomatch h⟩

/-- The gate, at a row and a lane. -/
theorem gate_at (r : Fin 256) (l : Fin 1024) :
    k0_pay5 (View.ld x0 r0_0) (View.ld x1 r0_1) (View.ld x2 r0_2) (View.ld x2 r0_3) (ix3 0 r l)
      = gated (blockRow x0 x1 x2 r ⟨l.val, by omega⟩) (blockRow x0 x1 x2 r ⟨1024 + l.val, by omega⟩) := by
  rw [ld_x, ld_g, pay5_apply]
  unfold gated
  rw [cols x0 x1 x2 (fun j l => View.ld x2 r0_2 (ix2 j l)) 0 (by decide) (fun j l => ld_half x2 0 (by decide) _ j l) r l ⟨l.val, by omega⟩ (by show l.val = 0 + l.val; omega),
    cols x0 x1 x2 (fun j l => View.ld x2 r0_3 (ix2 j l)) 1024 (by decide) (fun j l => ld_half x2 1024 (by decide) _ j l) r l ⟨1024 + l.val, by omega⟩ rfl]

/-- The plain columns, at a row and a lane. -/
theorem plain_at (r : Fin 256) (l : Fin 256) :
    k0_pay3 (k0_pay29 x0 x1 x2 x3 x4 x5) (View.ld x2 r0_21) (ix3 0 r l) = blockRow x0 x1 x2 r ⟨3328 + l.val, by omega⟩ := by
  refine (pay3_apply _ _ r l).trans ((congrArg (fun f => lin f _ l) (funext fun k => pay29_apply x0 x1 x2 x3 x4 x5 r k)).trans ?_)
  exact cols x0 x1 x2 _ 3328 (by decide) (fun j l => ld_w x2 3328 (by decide) _ j l) r l ⟨3328 + l.val, by omega⟩ rfl

/-- What a point leaves in its block of gates. -/
theorem out6_apply (y : S1x256x1024.Idx) :
    out0_6 x0 x1 x2 x3 x4 x5 y
      = gated (blockRow x0 x1 x2 (y 1) ⟨(y 2).val, by have : (y 2).val < 1024 := (y 2).isLt; omega⟩)
          (blockRow x0 x1 x2 (y 1) ⟨1024 + (y 2).val, by have : (y 2).val < 1024 := (y 2).isLt; omega⟩) := by
  have hy : y = ix3 (0 : Fin 1) (y 1) (y 2) := funext fun a => by
    fin_cases a
    · exact Subsingleton.elim (α := Fin 1) _ _
    · rfl
    · rfl
  refine (congrFun (View.canon_unit_zero (S := S1x256x1024) (funext fun a => by fin_cases a <;> rfl) _ _) y).trans ?_
  exact (congrArg _ hy).trans (gate_at x0 x1 x2 (y 1) (y 2))

/-- What a point leaves in its block of values. -/
theorem out9_apply (y : S1x256x256.Idx) :
    out0_9 x0 x1 x2 x3 x4 x5 y = blockRow x0 x1 x2 (y 1) ⟨3328 + (y 2).val, by have : (y 2).val < 256 := (y 2).isLt; omega⟩ := by
  have hy : y = ix3 (0 : Fin 1) (y 1) (y 2) := funext fun a => by
    fin_cases a
    · exact Subsingleton.elim (α := Fin 1) _ _
    · rfl
    · rfl
  refine (congrFun (View.canon_unit_zero (S := S1x256x256) (funext fun a => by fin_cases a <;> rfl) _ _) y).trans ?_
  exact (congrArg _ hy).trans (plain_at x0 x1 x2 x3 x4 x5 (y 1) (y 2))

end Out

end Cert.InProjIdeal.Block

end
-- ==== Proof.InProjTables.lean ====
/- The tables of the rotation that the host hands the kernel: cosines and sines of the positions' angles, lane by lane. -/
module

public import proofs.«01_k».proof.Proof.Gen.InProjIdeal.Value
public import Idealize.ShloMosaic.Lib.ValueIdx
public import Idealize.ShloMosaic.Lib.Pointwise
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.SL.Sem

namespace Cert.InProjIdeal.Tables

open Cert.InProjIdeal Cert.InProjIdeal.Gen

/-! ## The host's arrays -/

/-- A divisor of a remainder, with zero replaced by one. -/
def divisor (n : IVec S_ 32) : IVec S_ 32 :=
  select (cmpi .eq (id n) (constantI S_ 32 0#32)) (constantI S_ 32 1#32) (id n)

/-- The remainders of 128 words, of the sign of the divisor. -/
def remainders (a : IVec S128 32) (n : IVec S_ 32) : IVec S128 32 :=
  select
    (andi
      (cmpi .ne
        (cmpi .slt (Host.remsi a (broadcastInDim S128 ![] bcast_S_S128 (divisor n))) (broadcastInDim S128 ![] bcast_S_S128 (constantI S_ 32 0#32)))
        (broadcastInDim S128 ![] bcast_S_S128 (cmpi .slt (divisor n) (constantI S_ 32 0#32))))
      (cmpi .ne (Host.remsi a (broadcastInDim S128 ![] bcast_S_S128 (divisor n))) (broadcastInDim S128 ![] bcast_S_S128 (constantI S_ 32 0#32))))
    (addi (Host.remsi a (broadcastInDim S128 ![] bcast_S_S128 (divisor n))) (broadcastInDim S128 ![] bcast_S_S128 (divisor n)))
    (Host.remsi a (broadcastInDim S128 ![] bcast_S_S128 (divisor n)))

/-- Each lane's place in its head. -/
def lanes : IVec S128 32 := remainders (iotaInDim S128 32 0) (constantI S_ 32 64#32)

/-- Each lane's frequency. -/
def freqs : IVec S128 32 := remainders lanes (constantI S_ 32 8#32)

/-- Each lane's frequency, as the gather takes it. -/
def starts : IVec S128x1 32 :=
  broadcastInDim S128x1 ![0] bcast_S128_S128x1_0
    (select (cmpi .slt freqs (broadcastInDim S128 ![] bcast_S_S128 (constantI S_ 32 0#32)))
      (addi freqs (broadcastInDim S128 ![] bcast_S_S128 (constantI S_ 32 8#32))) freqs)

/-- The angles: a position times a frequency. -/
def angles : FVec Ideal S2048x8 .f32 :=
  mulf
    (broadcastInDim S2048x8 ![0, 1] bcast_S2048x1_S2048x8_0_1 (broadcastInDim S2048x1 ![0] bcast_S2048_S2048x1_0
      (sitofp .f32 (addi (broadcastInDim S2048 ![] bcast_S_S2048 (constantI S_ 32 0#32)) (iotaInDim S2048 32 0)))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (Host.negf (mulf (broadcastInDim S8 ![] bcast_S_S8 (constant S_ .f32 0x40000000#32)) (sitofp .f32 (iotaInDim S8 32 0))))
          (broadcastInDim S8 ![] bcast_S_S8 (constant S_ .f32 0x41800000#32))))))

/-- The angle of a position and a lane. -/
def spread : FVec Ideal S2048x128 .f32 := Host.gather gather_S2048x8_S128x1_S2048x128_0_1_n_n_1_1_20481 angles starts

/-- Whether a lane's place is below a bound. -/
def below (n : BitVec 32) : IVec S1x128 1 :=
  cmpi .slt (broadcastInDim S1x128 ![1] bcast_S128_S1x128_1 lanes) (broadcastInDim S1x128 ![] bcast_S_S1x128 (constantI S_ 32 n))

/-- Whether it is at least 8. -/
def above : IVec S1x128 1 :=
  cmpi .sge (broadcastInDim S1x128 ![1] bcast_S128_S1x128_1 lanes) (broadcastInDim S1x128 ![] bcast_S_S1x128 (constantI S_ 32 8#32))

/-- An array where a lane is marked, a constant elsewhere. -/
def where_ (b : IVec S1x128 1) (x : FVec Ideal S2048x128 .f32) (z : FVec Ideal S_ .f32) : FVec Ideal S2048x128 .f32 :=
  select (broadcastInDim S2048x128 ![0, 1] bcast_S1x128_S2048x128_0_1 b) x (broadcastInDim S2048x128 ![] bcast_S_S2048x128 (id z))

variable (m : (ℓ : Loc nD τ sig) → Buf (Elt Ideal) ℓ)

set_option maxHeartbeats 2000000 in
/-- The kernel's table of cosines. -/
theorem V_cos (c : Dev nD) : V m c main_v32 = where_ (below 16#32) (Host.cos spread) (constant S_ .f32 0x3F800000#32) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append]
  after_reads_simp
  rfl

set_option maxHeartbeats 2000000 in
/-- Its table of sines, at the lanes that take the half before them. -/
theorem V_up (c : Dev nD) : V m c main_v41 = where_ (andi above (below 16#32)) (Host.sin spread) (constant S_ .f32 0x00000000#32) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append]
  after_reads_simp
  rfl

set_option maxHeartbeats 2000000 in
/-- Its table of negated sines, at the lanes that take the half behind them. -/
theorem V_dn (c : Dev nD) : V m c main_v46 = where_ (below 8#32) (Host.negf (Host.sin spread)) (constant S_ .f32 0x00000000#32) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append]
  after_reads_simp
  rfl

end Cert.InProjIdeal.Tables

end
-- ==== Proof.InProjLanes.lean ====
/- The tables of the rotation, read at a position and a lane. -/
module

public import proofs.«01_k».proof.Proof.InProjTables
public import proofs.«01_k».proof.Proof.RopeMath
public import Idealize.ShloMosaic.Lib.ValueIdx
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.InProjIdeal.Tables

open Cert.InProjIdeal Cert.InProjIdeal.Gen
open Cert.RopeMath

/-! ## At an index -/

/-- Lane `l` is place `l % 64` of its head. -/
theorem lanes_apply (l : Fin 128) : lanes (ix1 l) = BitVec.ofNat 32 (l.val % 64) := by
  revert l
  decide +kernel

/-- The start of lane `l`'s column of angles. -/
theorem starts_apply (l : Fin 128) : starts (ix2 l 0) = BitVec.ofNat 32 (l.val % 8) := by
  revert l
  decide +kernel

/-- The array of angles holds them. -/
theorem angles_apply (t : Fin 2048) (d : Fin 8) : angles (ix2 t d) = angle t d := by
  unfold angles angle
  pointwise
  rw [show IntOp.addi (0#32) (BitVec.ofNat 32 t.val) = BitVec.ofNat 32 t.val from BitVec.zero_add _]

/-- The angle of position `t` and lane `l`. -/
theorem spread_apply (t : Fin 2048) (l : Fin 128) : spread (ix2 t l) = angle t ⟨l.val % 8, by omega⟩ := by
  refine Eq.trans ?_ (angles_apply t _)
  unfold spread
  have h := starts_apply l
  revert h
  generalize angles = x
  generalize starts = s
  intro h
  unfold Host.gather
  congr 1
  funext a
  refine Fin.ext ?_
  have h01 : a = 0 ∨ a = 1 := by
    match a with
    | ⟨0, _⟩ => exact Or.inl rfl
    | ⟨1, _⟩ => exact Or.inr rfl
  show GatherDims.start _ _ _ a + GatherDims.batchCoord _ _ a + GatherDims.offCoord _ _ a = _
  rcases h01 with rfl | rfl
  · rw [GatherDims.batchCoord_eq_zero _ _ _ List.not_mem_nil]
    unfold GatherDims.start
    rw [dif_neg (show ¬(0 : Fin 2) ∈ gather_S2048x8_S128x1_S2048x128_0_1_n_n_1_1_20481.startIndexMap by decide)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x8_S128x1_S2048x128_0_1_n_n_1_1_20481.startIndexMap from List.mem_singleton.mpr rfl)]
    have hsi : gather_S2048x8_S128x1_S2048x128_0_1_n_n_1_1_20481.siIdx (ix2 t l)
        ⟨List.idxOf (1 : Fin 2) gather_S2048x8_S128x1_S2048x128_0_1_n_n_1_1_20481.startIndexMap,
          List.idxOf_lt_length_iff.2 (List.mem_singleton.mpr rfl)⟩ = ix2 l 0 := by
      funext b
      refine Fin.ext ?_
      match b with
      | ⟨0, _⟩ => rfl
      | ⟨1, _⟩ => rfl
    rw [hsi, h]
    clear h hsi
    show min (BitVec.ofNat 32 (l.val % 8)).toInt.toNat 7 = l.val % 8
    revert l
    decide +kernel

/-- A lane is marked where its place is below the bound. -/
theorem below_apply (n : Fin 64) (l : Fin 128) : below (BitVec.ofNat 32 n.val) (ix2 0 l) = if l.val % 64 < n.val then 1#1 else 0#1 := by
  have h := lanes_apply l
  unfold below
  revert h
  generalize lanes = f
  intro h
  pointwise
  rw [h]
  clear h
  revert n l
  decide +kernel

/-- A lane is marked where its place is at least 8. -/
theorem above_apply (l : Fin 128) : above (ix2 0 l) = if 8 ≤ l.val % 64 then 1#1 else 0#1 := by
  have h := lanes_apply l
  unfold above
  revert h
  generalize lanes = f
  intro h
  pointwise
  rw [h]
  clear h
  revert l
  decide +kernel

/-- An array where a lane is marked, at an index. -/
theorem where_apply (b : IVec S1x128 1) (x : FVec Ideal S2048x128 .f32) (z : BitVec 32) (t : Fin 2048) (l : Fin 128) (p : Prop) [Decidable p]
    (h : b (ix2 0 l) = if p then 1#1 else 0#1) : where_ b x (constant S_ .f32 z) (ix2 t l) = if p then x (ix2 t l) else Ideal.ofBits .f32 z := by
  unfold where_
  pointwise
  rw [h]
  by_cases hp : p
  · rw [if_pos hp, if_pos hp]; rfl
  · rw [if_neg hp, if_neg hp]; rfl

variable (m : (ℓ : Loc nD τ sig) → Buf (Elt Ideal) ℓ)

/-- The kernel is handed the cosines. -/
theorem cos_apply (c : Dev nD) (t : Fin 2048) (l : Fin 128) : V m c main_v32 (ix2 t l) = cosTab t l := by
  rw [V_cos]
  refine (where_apply _ _ _ t l _ (below_apply 16 l)).trans ?_
  rw [Ideal.ofBits_one_f32]
  exact congrArg (fun e => if l.val % 64 < 16 then Ideal.cos e else 1) (spread_apply t l)

/-- The sines, one way. -/
theorem up_apply (c : Dev nD) (t : Fin 2048) (l : Fin 128) : V m c main_v41 (ix2 t l) = upTab t l := by
  rw [V_up]
  refine (where_apply _ _ _ t l (8 ≤ l.val % 64 ∧ l.val % 64 < 16) ?_).trans ?_
  · show IntOp.andi (above (ix2 0 l)) (below 16#32 (ix2 0 l)) = _
    rw [above_apply, show below 16#32 (ix2 0 l) = _ from below_apply 16 l]
    revert l
    decide +kernel
  rw [Ideal.ofBits_zero_f32]
  exact congrArg (fun e => if 8 ≤ l.val % 64 ∧ l.val % 64 < 16 then Ideal.sin e else 0) (spread_apply t l)

/-- The sines, the other way. -/
theorem dn_apply (c : Dev nD) (t : Fin 2048) (l : Fin 128) : V m c main_v46 (ix2 t l) = dnTab t l := by
  rw [V_dn]
  refine (where_apply _ _ _ t l _ (below_apply 8 l)).trans ?_
  rw [Ideal.ofBits_zero_f32]
  exact congrArg (fun e => if l.val % 64 < 8 then -Ideal.sin e else 0) (spread_apply t l)

end Cert.InProjIdeal.Tables

end
-- ==== Proof.InProjOperands.lean ====
/- The two operands the host hands on as they come: the gain, reshaped, and the projection, cast. -/
module

public import proofs.«01_k».proof.Proof.Gen.InProjIdeal.Frame
public import Idealize.ShloMosaic.Lib.ValueIdx
public import Idealize.ShloMosaic.Lib.Pointwise
public import Idealize.ShloMosaic.Lib.StableHlo.ReadAt
public import Idealize.ShloMosaic.Lib.StableHlo.RunRead

@[expose] public section

set_option maxRecDepth 16384

noncomputable section

open Idealize.ShloMosaic Idealize.ShloMosaic.TcCoe Idealize.SL.Sem

namespace Cert.InProjIdeal.Operands

open Cert.InProjIdeal Cert.InProjIdeal.Gen

variable (m : (ℓ : Loc nD τ sig) → Buf (Elt Ideal) ℓ)

set_option maxHeartbeats 2000000 in
/-- The kernel is handed the gain. -/
theorem V_gain (c : Dev nD) : V m c main_v47 = shapeCast S1x2048 (m ((c : Thread nD τ).loc main_arg1)) shapeCasts_S2048_S1x2048 := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append]
  after_reads_simp
  rfl

set_option maxHeartbeats 2000000 in
/-- The kernel is handed the projection. -/
theorem V_proj (c : Dev nD) : V m c main_v0 = m ((c : Thread nD τ).loc main_arg2) := by
  unfold V hostOps0 hostOps0_1 hostOps0_2 hostOps0_3 hostOps0_4 hostOps0_5 hostOps0_6 hostOps0_7 hostOps0_8 hostOps0_9 hostOps0_10
  simp only [List.flatten_cons, List.flatten_nil, List.cons_append, List.nil_append]
  after_reads_simp
  rfl

/-- The gain, at an index. -/
theorem gain_apply (c : Dev nD) (k : Fin 2048) : V m c main_v47 (ix2 0 k) = m ((c : Thread nD τ).loc main_arg1) (ix1 k) := by
  rw [V_gain]
  pointwise

end Cert.InProjIdeal.Operands

end
-- ==== Proof.InProjArray.lean ====
/- The input projections' arrays after the run: every block read at an index, and the arrays column by column. -/
module

public import proofs.«01_k».proof.Proof.Gen.InProjIdeal.Value
public import proofs.«01_k».proof.Proof.InProjBlock
public import proofs.«01_k».proof.Proof.InProjLanes
public import proofs.«01_k».proof.Proof.InProjOperands
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.InProjIdeal.Block

open Cert.InProjIdeal Cert.InProjIdeal.Gen
open Cert.RowMath Cert.RopeMath

/-! ## The blocks as stretches of the arrays -/

variable (m : (ℓ : Loc nD τ sig) → Buf (Elt Ideal) ℓ) (ρ : Dev nD → PrngReg)

/-- Where block 0 of a point lies. -/
theorem idx0 : ∀ t : Fin cfg0.N, win0_0.index t = ![(grid0.coords t 0).val, (grid0.coords t 1).val, 0] := by decide +kernel
/-- Where block 1 of a point lies. -/
theorem idx1 : ∀ t : Fin cfg0.N, win0_1.index t = ![0, 0] := by decide +kernel
/-- Where block 2 of a point lies. -/
theorem idx2 : ∀ t : Fin cfg0.N, win0_2.index t = ![0, 0] := by decide +kernel
/-- Where block 3 of a point lies. -/
theorem idx3 : ∀ t : Fin cfg0.N, win0_3.index t = ![(grid0.coords t 1).val, 0] := by decide +kernel
/-- Where block 4 of a point lies. -/
theorem idx4 : ∀ t : Fin cfg0.N, win0_4.index t = ![(grid0.coords t 1).val, 0] := by decide +kernel
/-- Where block 5 of a point lies. -/
theorem idx5 : ∀ t : Fin cfg0.N, win0_5.index t = ![(grid0.coords t 1).val, 0] := by decide +kernel
/-- Where block 6 of a point lies. -/
theorem idx6 : ∀ t : Fin cfg0.N, win0_6.index t = ![(grid0.coords t 0).val, (grid0.coords t 1).val, 0] := by decide +kernel
/-- Where block 7 of a point lies. -/
theorem idx7 : ∀ t : Fin cfg0.N, win0_7.index t = ![(grid0.coords t 0).val, (grid0.coords t 1).val, 0] := by decide +kernel
/-- Where block 8 of a point lies. -/
theorem idx8 : ∀ t : Fin cfg0.N, win0_8.index t = ![(grid0.coords t 0).val, (grid0.coords t 1).val, 0] := by decide +kernel
/-- Where block 9 of a point lies. -/
theorem idx9 : ∀ t : Fin cfg0.N, win0_9.index t = ![(grid0.coords t 0).val, (grid0.coords t 1).val, 0] := by decide +kernel

/-- The batch entry of a point. -/
def bat (t : Fin cfg0.N) : Fin 16 := ⟨(grid0.coords t 0).val, (grid0.coords t 0).isLt⟩

/-- The token of a point's row. -/
def tok (t : Fin cfg0.N) (r : Fin 256) : Fin 2048 :=
  ⟨256 * (grid0.coords t 1).val + r.val, by have : (grid0.coords t 1).val < 8 := (grid0.coords t 1).isLt; omega⟩

/-- A point's rows. -/
theorem x_block (c : Dev nD) (t : Fin cfg0.N) (r : Fin 256) (k : Fin 2048) :
    iblk m c 0 t (ix3 0 r k) = m ((c : Thread nD τ).loc main_arg0) (ix3 (bat t) (tok t r) k) := by
  refine Eq.trans ?_ (congrFun (V_main_arg0 m c) _)
  show V m c main_arg0 (((cfg0.win 0).blk t).view.emb (ix3 0 r k)) = _
  generalize V m c main_arg0 = y
  refine congrArg y (funext fun a => Fin.ext ?_)
  fin_cases a
  · show ((((cfg0.win 0).blk t).view.emb (ix3 0 r k)) 0 : Nat) = (grid0.coords t 0).val
    blk_simp [idx0 t]; rfl
  · show ((((cfg0.win 0).blk t).view.emb (ix3 0 r k)) 1 : Nat) = 256 * (grid0.coords t 1).val + r.val
    blk_simp [idx0 t]; omega
  · show ((((cfg0.win 0).blk t).view.emb (ix3 0 r k)) 2 : Nat) = k.val
    blk_simp [idx0 t]

/-- The gain. -/
theorem g_block (c : Dev nD) (t : Fin cfg0.N) (k : Fin 2048) : iblk m c 1 t (ix2 0 k) = m ((c : Thread nD τ).loc main_arg1) (ix1 k) := by
  refine Eq.trans ?_ (Operands.gain_apply m c k)
  show V m c main_v47 (((cfg0.win 1).blk t).view.emb (ix2 0 k)) = _
  generalize V m c main_v47 = y
  refine congrArg y (funext fun a => Fin.ext ?_)
  fin_cases a
  · show ((((cfg0.win 1).blk t).view.emb (ix2 0 k)) 0 : Nat) = 0
    blk_simp [idx1 t]; rfl
  · show ((((cfg0.win 1).blk t).view.emb (ix2 0 k)) 1 : Nat) = k.val
    blk_simp [idx1 t]

/-- The projection. -/
theorem w_block (c : Dev nD) (t : Fin cfg0.N) (j : Fin 2048) (l : Fin 3584) :
    iblk m c 2 t (ix2 j l) = m ((c : Thread nD τ).loc main_arg2) (ix2 j l) := by
  refine Eq.trans ?_ (congrFun (Operands.V_proj m c) (ix2 j l))
  show V m c main_v0 (((cfg0.win 2).blk t).view.emb (ix2 j l)) = _
  generalize V m c main_v0 = y
  refine congrArg y (funext fun a => Fin.ext ?_)
  fin_cases a
  · show ((((cfg0.win 2).blk t).view.emb (ix2 j l)) 0 : Nat) = j.val
    blk_simp [idx2 t]
  · show ((((cfg0.win 2).blk t).view.emb (ix2 j l)) 1 : Nat) = l.val
    blk_simp [idx2 t]

/-- A point's rows of the cosines. -/
theorem cos_block (c : Dev nD) (t : Fin cfg0.N) (r : Fin 256) (l : Fin 128) : iblk m c 3 t (ix2 r l) = cosTab (tok t r) l := by
  refine Eq.trans ?_ (Tables.cos_apply m c (tok t r) l)
  show V m c main_v32 (((cfg0.win 3).blk t).view.emb (ix2 r l)) = _
  generalize V m c main_v32 = y
  refine congrArg y (funext fun a => Fin.ext ?_)
  fin_cases a
  · show ((((cfg0.win 3).blk t).view.emb (ix2 r l)) 0 : Nat) = 256 * (grid0.coords t 1).val + r.val
    blk_simp [idx3 t]; omega
  · show ((((cfg0.win 3).blk t).view.emb (ix2 r l)) 1 : Nat) = l.val
    blk_simp [idx3 t]

/-- A point's rows of the sines, one way. -/
theorem up_block (c : Dev nD) (t : Fin cfg0.N) (r : Fin 256) (l : Fin 128) : iblk m c 4 t (ix2 r l) = upTab (tok t r) l := by
  refine Eq.trans ?_ (Tables.up_apply m c (tok t r) l)
  show V m c main_v41 (((cfg0.win 4).blk t).view.emb (ix2 r l)) = _
  generalize V m c main_v41 = y
  refine congrArg y (funext fun a => Fin.ext ?_)
  fin_cases a
  · show ((((cfg0.win 4).blk t).view.emb (ix2 r l)) 0 : Nat) = 256 * (grid0.coords t 1).val + r.val
    blk_simp [idx4 t]; omega
  · show ((((cfg0.win 4).blk t).view.emb (ix2 r l)) 1 : Nat) = l.val
    blk_simp [idx4 t]

/-- A point's rows of the sines, the other way. -/
theorem dn_block (c : Dev nD) (t : Fin cfg0.N) (r : Fin 256) (l : Fin 128) : iblk m c 5 t (ix2 r l) = dnTab (tok t r) l := by
  refine Eq.trans ?_ (Tables.dn_apply m c (tok t r) l)
  show V m c main_v46 (((cfg0.win 5).blk t).view.emb (ix2 r l)) = _
  generalize V m c main_v46 = y
  refine congrArg y (funext fun a => Fin.ext ?_)
  fin_cases a
  · show ((((cfg0.win 5).blk t).view.emb (ix2 r l)) 0 : Nat) = 256 * (grid0.coords t 1).val + r.val
    blk_simp [idx5 t]; omega
  · show ((((cfg0.win 5).blk t).view.emb (ix2 r l)) 1 : Nat) = l.val
    blk_simp [idx5 t]

/-- A token's row times the projection. -/
def projAt (c : Dev nD) (b : Fin 16) (T : Fin 2048) : Fin 3584 → EReal :=
  lin (rms (fun k => m ((c : Thread nD τ).loc main_arg0) (ix3 b T k)) (fun k => m ((c : Thread nD τ).loc main_arg1) (ix1 k)))
    (fun j l => m ((c : Thread nD τ).loc main_arg2) (ix2 j l))

/-- A point's row times the projection is its token's. -/
theorem row_block (c : Dev nD) (t : Fin cfg0.N) (r : Fin 256) :
    blockRow (iblk m c 0 t) (iblk m c 1 t) (iblk m c 2 t) r = projAt m c (bat t) (tok t r) := by
  unfold projAt
  funext l
  unfold blockRow
  simp only [x_block, g_block, w_block]

/-- A rotated column of a point is its token's. -/
theorem swung_block (c : Dev nD) (t : Fin cfg0.N) (r : Fin 256) (l : Fin 3584) :
    swung (iblk m c 0 t) (iblk m c 1 t) (iblk m c 2 t) (iblk m c 3 t) (iblk m c 4 t) (iblk m c 5 t) r l
      = rope (projAt m c (bat t) (tok t r)) (tok t r) l := by
  refine Eq.trans ?_ (swing_eq_rope _ _ _)
  unfold swung
  rw [row_block]
  simp only [cos_block, up_block, dn_block]

/-- A lane of a gate of a token. -/
def gateAt (c : Dev nD) (b : Fin 16) (T : Fin 2048) (l : Fin 1024) : EReal :=
  gated (projAt m c b T ⟨l.val, by omega⟩) (projAt m c b T ⟨1024 + l.val, by omega⟩)

/-- A lane of a gate of a point is its token's. -/
theorem gate_block (c : Dev nD) (t : Fin cfg0.N) (r : Fin 256) (l : Fin 1024) :
    gated (blockRow (iblk m c 0 t) (iblk m c 1 t) (iblk m c 2 t) r ⟨l.val, by omega⟩)
        (blockRow (iblk m c 0 t) (iblk m c 1 t) (iblk m c 2 t) r ⟨1024 + l.val, by omega⟩)
      = gateAt m c (bat t) (tok t r) l := by
  unfold gateAt
  rw [row_block]

/-- A lane of a token's queries. -/
def queryAt (c : Dev nD) (b : Fin 16) (T : Fin 2048) (l : Fin 1024) : EReal := rope (projAt m c b T) T ⟨2048 + l.val, by omega⟩

/-- A lane of a token's keys. -/
def keyAt (c : Dev nD) (b : Fin 16) (T : Fin 2048) (l : Fin 256) : EReal := rope (projAt m c b T) T ⟨3072 + l.val, by omega⟩

/-- A lane of a token's values. -/
def valueAt (c : Dev nD) (b : Fin 16) (T : Fin 2048) (l : Fin 256) : EReal := projAt m c b T ⟨3328 + l.val, by omega⟩

/-- The gates, as an array of the program's. -/
def gateArr (c : Dev nD) : Buf (Elt Ideal) ((c : Thread nD τ).loc main_v48_0) := fun i => gateAt m c (i 0) (i 1) (i 2)

/-- The queries. -/
def queryArr (c : Dev nD) : Buf (Elt Ideal) ((c : Thread nD τ).loc main_v48_1) := fun i => queryAt m c (i 0) (i 1) (i 2)

/-- The keys. -/
def keyArr (c : Dev nD) : Buf (Elt Ideal) ((c : Thread nD τ).loc main_v48_2) := fun i => keyAt m c (i 0) (i 1) (i 2)

/-- The values. -/
def valueArr (c : Dev nD) : Buf (Elt Ideal) ((c : Thread nD τ).loc main_v48_3) := fun i => valueAt m c (i 0) (i 1) (i 2)

/-- The array of window 6 after the run: the gates. -/
theorem final6 (c : Dev nD) : (dats m 0 c).arrAt 6 cfg0.N = gateArr m c := by
  refine (dats m 0 c).arrAt_eq_of_covers 6 _ (by decide +kernel) fun t hf y => ?_
  refine (congrFun (Value.flushed6 m c t) y).trans ((out6_apply _ _ _ _ _ _ y).trans ((gate_block m c t (y 1) (y 2)).trans ?_))
  have h0 : (y 0 : Nat) < 1 := (y 0).isLt
  have e0 : bat t = (((cfg0.win 6).blk t).view.emb y) 0 := Fin.ext (by blk_simp [idx6 t, bat])
  have e1 : tok t (y 1) = (((cfg0.win 6).blk t).view.emb y) 1 := Fin.ext (Eq.symm (by
    show ((((cfg0.win 6).blk t).view.emb y) 1 : Nat) = 256 * (grid0.coords t 1).val + (y 1).val
    blk_simp [idx6 t]; omega))
  have e2 : y 2 = (((cfg0.win 6).blk t).view.emb y) 2 := Fin.ext (by blk_simp [idx6 t])
  exact (congrArg (fun b => gateAt m c b (tok t (y 1)) (y 2)) e0).trans
    ((congrArg (fun T => gateAt m c _ T (y 2)) e1).trans (congrArg (fun k => gateAt m c _ _ k) e2))

/-- The array of window 7 after the run: the queries. -/
theorem final7 (c : Dev nD) : (dats m 0 c).arrAt 7 cfg0.N = queryArr m c := by
  refine (dats m 0 c).arrAt_eq_of_covers 7 _ (by decide +kernel) fun t hf y => ?_
  refine (congrFun (Value.flushed7 m c t) y).trans ((out7_apply _ _ _ _ _ _ y).trans ((swung_block m c t (y 1) _).trans ?_))
  have h0 : (y 0 : Nat) < 1 := (y 0).isLt
  have e0 : bat t = (((cfg0.win 7).blk t).view.emb y) 0 := Fin.ext (by blk_simp [idx7 t, bat])
  have e1 : tok t (y 1) = (((cfg0.win 7).blk t).view.emb y) 1 := Fin.ext (Eq.symm (by
    show ((((cfg0.win 7).blk t).view.emb y) 1 : Nat) = 256 * (grid0.coords t 1).val + (y 1).val
    blk_simp [idx7 t]; omega))
  have e2 : y 2 = (((cfg0.win 7).blk t).view.emb y) 2 := Fin.ext (by blk_simp [idx7 t])
  exact (congrArg (fun b => queryAt m c b (tok t (y 1)) (y 2)) e0).trans
    ((congrArg (fun T => queryAt m c _ T (y 2)) e1).trans (congrArg (fun k => queryAt m c _ _ k) e2))

/-- The array of window 8 after the run: the keys. -/
theorem final8 (c : Dev nD) : (dats m 0 c).arrAt 8 cfg0.N = keyArr m c := by
  refine (dats m 0 c).arrAt_eq_of_covers 8 _ (by decide +kernel) fun t hf y => ?_
  refine (congrFun (Value.flushed8 m c t) y).trans ((out8_apply _ _ _ _ _ _ y).trans ((swung_block m c t (y 1) _).trans ?_))
  have h0 : (y 0 : Nat) < 1 := (y 0).isLt
  have e0 : bat t = (((cfg0.win 8).blk t).view.emb y) 0 := Fin.ext (by blk_simp [idx8 t, bat])
  have e1 : tok t (y 1) = (((cfg0.win 8).blk t).view.emb y) 1 := Fin.ext (Eq.symm (by
    show ((((cfg0.win 8).blk t).view.emb y) 1 : Nat) = 256 * (grid0.coords t 1).val + (y 1).val
    blk_simp [idx8 t]; omega))
  have e2 : y 2 = (((cfg0.win 8).blk t).view.emb y) 2 := Fin.ext (by blk_simp [idx8 t])
  exact (congrArg (fun b => keyAt m c b (tok t (y 1)) (y 2)) e0).trans
    ((congrArg (fun T => keyAt m c _ T (y 2)) e1).trans (congrArg (fun k => keyAt m c _ _ k) e2))

/-- The array of window 9 after the run: the values. -/
theorem final9 (c : Dev nD) : (dats m 0 c).arrAt 9 cfg0.N = valueArr m c := by
  refine (dats m 0 c).arrAt_eq_of_covers 9 _ (by decide +kernel) fun t hf y => ?_
  refine (congrFun (Value.flushed9 m c t) y).trans ((out9_apply _ _ _ _ _ _ y).trans ((congrFun (row_block m c t (y 1)) _).trans ?_))
  have h0 : (y 0 : Nat) < 1 := (y 0).isLt
  have e0 : bat t = (((cfg0.win 9).blk t).view.emb y) 0 := Fin.ext (by blk_simp [idx9 t, bat])
  have e1 : tok t (y 1) = (((cfg0.win 9).blk t).view.emb y) 1 := Fin.ext (Eq.symm (by
    show ((((cfg0.win 9).blk t).view.emb y) 1 : Nat) = 256 * (grid0.coords t 1).val + (y 1).val
    blk_simp [idx9 t]; omega))
  have e2 : y 2 = (((cfg0.win 9).blk t).view.emb y) 2 := Fin.ext (by blk_simp [idx9 t])
  exact (congrArg (fun b => valueAt m c b (tok t (y 1)) (y 2)) e0).trans
    ((congrArg (fun T => valueAt m c _ T (y 2)) e1).trans (congrArg (fun k => valueAt m c _ _ k) e2))

/-- The kernel runs: its results are the four arrays, its arguments are kept. -/
theorem run : θ_run defs (onTc (τ := τ) (main (F := Ideal))) ⟨m, fun _ => 0, ρ⟩ fun r => ∀ c : Dev nD,
      r.2.mem ((c : Thread nD τ).loc main_v48_0) = gateArr m c
      ∧ r.2.mem ((c : Thread nD τ).loc main_v48_1) = queryArr m c
      ∧ r.2.mem ((c : Thread nD τ).loc main_v48_2) = keyArr m c
      ∧ r.2.mem ((c : Thread nD τ).loc main_v48_3) = valueArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final6 m c), (h c).2.1.trans (final7 m c), (h c).2.2.1.trans (final8 m c),
      (h c).2.2.2.1.trans (final9 m c), (h c).2.2.2.2⟩)
    (Value.run_blocks m ρ)

end Cert.InProjIdeal.Block

end
-- ==== Proof.InProjRef.lean ====
/- The input projections' reference read at an index: each row over its root mean square, projected; the gate; each head rotated. -/
module

public import proofs.«01_k».proof.Proof.Gen.InProjRefIdeal.Read
public import proofs.«01_k».proof.Proof.RowMath
public import proofs.«01_k».proof.Proof.RopeMath
public import proofs.«01_k».proof.Proof.SinkSoftmax
public import Idealize.ShloMosaic.Lib.ValueIdx
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.InProjRefIdeal.Rows

open Cert.InProjRefIdeal Cert.InProjRefIdeal.Gen Cert.InProjRefIdeal.Read
open Cert.RowMath Cert.RopeMath

variable (x0 : FVec Ideal S16x2048x2048 .f32) (x1 : FVec Ideal S2048 .f32) (x2 : FVec Ideal S2048x3584 .f32)

/-- A row over its root mean square. -/
theorem norm_apply (b : Fin 16) (T k : Fin 2048) :
    val_main_v13 (F := Ideal) x0 x1 (ix3 b T k) = rms (fun k => x0 (ix3 b T k)) (fun k => x1 (ix1 k)) k := by
  unfold val_main_v13 val_main_v12 val_main_v11 val_main_v10 val_main_v9 val_main_v8 val_main_v7 val_main_v6
    val_main_v5 val_main_v4 val_main_v3 val_main_v2 val_main_v1 val_main_cst val_main_cst_0 val_main_cst_1
  pointwise
  rfl

/-- A row, projected. -/
def proj (b : Fin 16) (T : Fin 2048) : Fin 3584 → EReal :=
  lin (rms (fun k => x0 (ix3 b T k)) (fun k => x1 (ix1 k))) (fun j l => x2 (ix2 j l))

/-- The projection holds it. -/
theorem proj_apply (b : Fin 16) (T : Fin 2048) (l : Fin 3584) : val_main_v14 (F := Ideal) x0 x1 x2 (ix3 b T l) = proj x0 x1 x2 b T l := by
  have hn := norm_apply x0 x1 b T
  unfold val_main_v14 proj lin
  revert hn
  generalize val_main_v13 (F := Ideal) x0 x1 = y
  intro hn
  pointwise [dot_S16x2048x2048_S2048x3584_S16x2048x3584_2_0_01_1_n_n]
  simp only [hn]

/-- The values' columns. -/
theorem value_apply (b : Fin 16) (T : Fin 2048) (l : Fin 256) :
    val_main_v88 (F := Ideal) x0 x1 x2 (ix3 b T l) = proj x0 x1 x2 b T ⟨3328 + l.val, by omega⟩ := by
  have hp := proj_apply x0 x1 x2 b T
  unfold val_main_v88
  revert hp
  generalize val_main_v14 (F := Ideal) x0 x1 x2 = y
  intro hp
  pointwise
  simp only [hp]

/-- One and an exponential are not zero together. -/
theorem one_add_exp_ne_zero (x : EReal) : 1 + Ideal.exp x ≠ 0 := fun e => by
  have h1 : (1 : EReal) ≤ 1 + Ideal.exp x := le_add_of_nonneg_right (SinkSoftmax.exp_nonneg x)
  rw [e] at h1
  exact absurd h1 (by simp)

/-- The gate of two columns: a column times the sigmoid of another is its quotient. -/
theorem gate_apply (b : Fin 16) (T : Fin 2048) (l : Fin 1024) :
    val_main_v97 (F := Ideal) x0 x1 x2 (ix3 b T l)
      = Ideal.div (proj x0 x1 x2 b T ⟨l.val, by omega⟩) (1 + Ideal.exp (-proj x0 x1 x2 b T ⟨1024 + l.val, by omega⟩)) := by
  have hp := proj_apply x0 x1 x2 b T
  unfold val_main_v97 val_main_v96 val_main_v95 val_main_v94 val_main_v93 val_main_v92 val_main_v91 val_main_v90 val_main_v89 val_main_v15
    val_main_cst_8 val_main_cst_9
  revert hp
  generalize val_main_v14 (F := Ideal) x0 x1 x2 = y
  intro hp
  pointwise
  simp only [hp, Ideal.ofBits_one_f32]
  exact Ideal.mul_one_div (one_add_exp_ne_zero _)

/-- The angles of the queries' rotation. -/
theorem query_angle_apply (T : Fin 2048) (d : Fin 8) : val_main_v31 (F := Ideal) (ix2 T d) = angle T d := by
  unfold val_main_v31 val_main_v30 val_main_v29 val_main_v28 val_main_v27 val_main_v26 val_main_v25 val_main_v24 val_main_v23 val_main_v22
    val_main_v21 val_main_v20 val_main_v19 val_main_v18 val_main_v0 val_main_cst_2 val_main_cst_3 val_main_cst_4 angle
  pointwise

/-- The angles of the keys' rotation. -/
theorem key_angle_apply (T : Fin 2048) (d : Fin 8) : val_main_v67 (F := Ideal) (ix2 T d) = angle T d := by
  unfold val_main_v67 val_main_v66 val_main_v65 val_main_v64 val_main_v63 val_main_v62 val_main_v61 val_main_v60 val_main_v59 val_main_v58
    val_main_v57 val_main_v56 val_main_v55 val_main_v54 val_main_v0 val_main_cst_5 val_main_cst_6 val_main_cst_7 angle
  pointwise

/-- A head whose first eight lanes turn with the eight behind them, the next eight with those before, the rest kept: its columns rotated. -/
theorem turned_eq_rope (f : Fin 64 → EReal) (g : Fin 3584 → EReal) (T : Fin 2048) (z : Fin 8 → EReal) (s : Nat) (hs : s + 64 ≤ 3584) (hm : s % 64 = 0)
    (hf : ∀ d, f d = g ⟨s + d.val, by omega⟩) (hz : ∀ d, z d = angle T d) (d : Fin 64) :
    (if _ : d.val < 16 then
      if _ : d.val < 8 then f d * Ideal.cos (z ⟨d.val, by omega⟩) - f ⟨8 + d.val, by omega⟩ * Ideal.sin (z ⟨d.val, by omega⟩)
      else f ⟨8 + (d.val - 8), by omega⟩ * Ideal.cos (z ⟨d.val - 8, by omega⟩) + f ⟨d.val - 8, by omega⟩ * Ideal.sin (z ⟨d.val - 8, by omega⟩)
    else f ⟨16 + (d.val - 16), by omega⟩) = rope g T ⟨s + d.val, by omega⟩ := by
  unfold rope
  simp only [hf, hz]
  by_cases h8 : d.val < 8
  · have h16 : d.val < 16 := by omega
    have e : (s + d.val) % 64 < 8 := by omega
    have e8 : (s + d.val) % 8 = d.val := by omega
    have ea : s + (8 + d.val) = s + d.val + 8 := by omega
    simp only [dif_pos h8, dif_pos h16, dif_pos e, e8, ea]
  · by_cases h16 : d.val < 16
    · have e : ¬ (s + d.val) % 64 < 8 := by omega
      have e' : (s + d.val) % 64 < 16 := by omega
      have e8 : (s + d.val) % 8 = d.val - 8 := by omega
      have ea : s + (8 + (d.val - 8)) = s + d.val := by omega
      have eb : s + (d.val - 8) = s + d.val - 8 := by omega
      simp only [dif_neg h8, dif_pos h16, dif_neg e, dif_pos e', e8, ea, eb]
    · have e : ¬ (s + d.val) % 64 < 8 := by omega
      have e' : ¬ (s + d.val) % 64 < 16 := by omega
      have ea : s + (16 + (d.val - 16)) = s + d.val := by omega
      simp only [dif_neg h16, dif_neg e, dif_neg e', ea]

/-- The queries' heads. -/
theorem query_head_apply (b : Fin 16) (T : Fin 2048) (h : Fin 16) (d : Fin 64) :
    val_main_v17 (F := Ideal) x0 x1 x2 (ix4 b T h d) = proj x0 x1 x2 b T ⟨2048 + 64 * h.val + d.val, by omega⟩ := by
  have hp := proj_apply x0 x1 x2 b T
  unfold val_main_v17 val_main_v16
  revert hp
  generalize val_main_v14 (F := Ideal) x0 x1 x2 = y
  intro hp
  pointwise
  exact (hp _).trans (congrArg _ (Fin.ext (by show 2048 + (h.val * 64 + d.val) = 2048 + 64 * h.val + d.val; omega)))

/-- The queries' heads, rotated. -/
theorem query_turned_apply (b : Fin 16) (T : Fin 2048) (h : Fin 16) (d : Fin 64) :
    val_main_v51 (F := Ideal) x0 x1 x2 (ix4 b T h d) = rope (proj x0 x1 x2 b T) T ⟨2048 + 64 * h.val + d.val, by omega⟩ := by
  have hh := query_head_apply x0 x1 x2 b T h
  have ha := query_angle_apply T
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32
  revert hh ha
  generalize val_main_v17 (F := Ideal) x0 x1 x2 = y
  generalize val_main_v31 (F := Ideal) = z
  intro hh ha
  pointwise
  exact turned_eq_rope (fun d => y (ix4 b T h d)) _ T (fun d => z (ix2 T d)) (2048 + 64 * h.val) (by omega) (by omega) hh ha d

/-- The queries, as they are returned. -/
theorem query_apply (b : Fin 16) (T : Fin 2048) (l : Fin 1024) :
    val_main_v98 (F := Ideal) x0 x1 x2 (ix3 b T l) = rope (proj x0 x1 x2 b T) T ⟨2048 + l.val, by omega⟩ := by
  have ht := query_turned_apply x0 x1 x2 b T
  unfold val_main_v98
  revert ht
  generalize val_main_v51 (F := Ideal) x0 x1 x2 = y
  intro ht
  pointwise
  refine (ht ⟨l.val / 64, by omega⟩ ⟨l.val % 64, by omega⟩).trans (congrArg _ (Fin.ext ?_))
  show 2048 + 64 * (l.val / 64) + l.val % 64 = 2048 + l.val
  omega

/-- The keys' heads. -/
theorem key_head_apply (b : Fin 16) (T : Fin 2048) (h : Fin 4) (d : Fin 64) :
    val_main_v53 (F := Ideal) x0 x1 x2 (ix4 b T h d) = proj x0 x1 x2 b T ⟨3072 + 64 * h.val + d.val, by omega⟩ := by
  have hp := proj_apply x0 x1 x2 b T
  unfold val_main_v53 val_main_v52
  revert hp
  generalize val_main_v14 (F := Ideal) x0 x1 x2 = y
  intro hp
  pointwise
  exact (hp _).trans (congrArg _ (Fin.ext (by show 3072 + (h.val * 64 + d.val) = 3072 + 64 * h.val + d.val; omega)))

/-- The keys' heads, rotated. -/
theorem key_turned_apply (b : Fin 16) (T : Fin 2048) (h : Fin 4) (d : Fin 64) :
    val_main_v87 (F := Ideal) x0 x1 x2 (ix4 b T h d) = rope (proj x0 x1 x2 b T) T ⟨3072 + 64 * h.val + d.val, by omega⟩ := by
  have hh := key_head_apply x0 x1 x2 b T h
  have ha := key_angle_apply T
  unfold val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68
  revert hh ha
  generalize val_main_v53 (F := Ideal) x0 x1 x2 = y
  generalize val_main_v67 (F := Ideal) = z
  intro hh ha
  pointwise
  exact turned_eq_rope (fun d => y (ix4 b T h d)) _ T (fun d => z (ix2 T d)) (3072 + 64 * h.val) (by omega) (by omega) hh ha d

/-- The keys, as they are returned. -/
theorem key_apply (b : Fin 16) (T : Fin 2048) (l : Fin 256) :
    val_main_v99 (F := Ideal) x0 x1 x2 (ix3 b T l) = rope (proj x0 x1 x2 b T) T ⟨3072 + l.val, by omega⟩ := by
  have ht := key_turned_apply x0 x1 x2 b T
  unfold val_main_v99
  revert ht
  generalize val_main_v87 (F := Ideal) x0 x1 x2 = y
  intro ht
  pointwise
  refine (ht ⟨l.val / 64, by omega⟩ ⟨l.val % 64, by omega⟩).trans (congrArg _ (Fin.ext ?_))
  show 3072 + 64 * (l.val / 64) + l.val % 64 = 3072 + l.val
  omega

end Cert.InProjRefIdeal.Rows

end
-- ==== Proof.InProjClaims.lean ====
/- The claims about the input projections: the frames and the equations with the reference. -/
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InProjArray
public import proofs.«01_k».proof.Proof.InProjRef

@[expose] public section

set_option maxRecDepth 16384

noncomputable section

open Idealize.ShloMosaic Idealize.ShloMosaic.TcCoe Idealize.SL.Sem

namespace Cert.InProjClaims

/-- The frame of the input projections. -/
theorem frame_P : Cert.quiescent_InProj := fun m ρ _ => Cert.InProj.Gen.frame m ρ

/-- Its idealization's frame. -/
theorem frame_PI : Cert.quiescent_InProjIdeal := fun m ρ _ => Cert.InProjIdeal.Gen.frame m ρ

/-- The reference's frame. -/
theorem frame_RI : Cert.quiescent_InProjRefIdeal := fun m ρ _ =>
  (θ_run Cert.InProjRefIdeal.defs _ _).mono
    (fun r h => ⟨fun c => (h c).2.2.2.2, Idealize.ShloMosaic.sem_eq_zero_of_no_sems (by decide) r.2⟩) (Cert.InProjRefIdeal.Value.run m ρ)

/-- The idealization changes nothing. -/
theorem preserves : Cert.preserves_InProj_InProjIdeal := trivial

/-- An index of the gates or the queries by its coordinates. -/
theorem idx_wide (i : Cert.InProjRefIdeal.S16x2048x1024.Idx) : i = ix3 (i 0) (i 1) (i 2) := funext fun a => by fin_cases a <;> rfl

/-- An index of the keys or the values by its coordinates. -/
theorem idx_narrow (i : Cert.InProjRefIdeal.S16x2048x256.Idx) : i = ix3 (i 0) (i 1) (i 2) := funext fun a => by fin_cases a <;> rfl

/-- The kernel's gates, queries, keys and values are the reference's. -/
theorem algebraic : Cert.algebraic_InProjIdeal_InProjRefIdeal := by
  intro m ρ m' ρ' _ hagree
  refine ⟨fun c => Cert.InProjIdeal.Block.gateArr m c, fun c => Cert.InProjIdeal.Block.queryArr m c,
    fun c => Cert.InProjIdeal.Block.keyArr m c, fun c => Cert.InProjIdeal.Block.valueArr m c, Cert.InProjIdeal.Block.run m ρ, ?_⟩
  refine (θ_run Cert.InProjRefIdeal.defs _ _).mono
    (fun _ h c => ⟨(h c).1.trans ?_, (h c).2.1.trans ?_, (h c).2.2.1.trans ?_, (h c).2.2.2.1.trans ?_, (h c).2.2.2.2⟩)
    (Cert.InProjRefIdeal.Value.run m' ρ')
  · obtain ⟨h0, h1, h2⟩ := hagree c
    refine (Cert.InProjRefIdeal.Read.val_main_v97_eq _ _ _).trans ?_
    rw [h0, h1, h2]
    funext i
    exact (congrArg _ (idx_wide i)).trans (Cert.InProjRefIdeal.Rows.gate_apply _ _ _ (i 0) (i 1) (i 2))
  · obtain ⟨h0, h1, h2⟩ := hagree c
    rw [Cert.InProjRefIdeal.Read.val_main_v98_eq m' c, h0, h1, h2]
    funext i
    exact (congrArg _ (idx_wide i)).trans (Cert.InProjRefIdeal.Rows.query_apply _ _ _ (i 0) (i 1) (i 2))
  · obtain ⟨h0, h1, h2⟩ := hagree c
    rw [Cert.InProjRefIdeal.Read.val_main_v99_eq m' c, h0, h1, h2]
    funext i
    exact (congrArg _ (idx_narrow i)).trans (Cert.InProjRefIdeal.Rows.key_apply _ _ _ (i 0) (i 1) (i 2))
  · obtain ⟨h0, h1, h2⟩ := hagree c
    refine (Cert.InProjRefIdeal.Read.val_main_v88_eq _ _ _).trans ?_
    rw [h0, h1, h2]
    funext i
    exact (congrArg _ (idx_narrow i)).trans (Cert.InProjRefIdeal.Rows.value_apply _ _ _ (i 0) (i 1) (i 2))

end Cert.InProjClaims

end
-- ==== Proof.MemKv.lean ====
/- The memory's keys and values: the kernel's arrays after its run and the reference's results, both as the normalised rows of the
   memory times the two projections. -/
module

public import proofs.«01_k».proof.Proof.Gen.MemKvIdeal.Value
public import proofs.«01_k».proof.Proof.Gen.MemKvRefIdeal.Read
public import proofs.«01_k».proof.Proof.RowMath
public import Idealize.ShloMosaic.Lib.ValueIdx
public import Idealize.ShloMosaic.Lib.Pointwise
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)
open Cert.RowMath

namespace Cert.MemKvIdeal.Block

open Cert.MemKvIdeal Cert.MemKvIdeal.Gen

/-! ## A block -/

/-- The normalised rows of a block. -/
theorem pay1_apply (x : Vec Ideal S1x256x2048 .f32) (g : Vec Ideal S1x2048 .f32) (r : Fin 256) (k : Fin 2048) :
    k0_pay1 x g (ix2 r k) = rms (fun k => x (ix3 0 r k)) (fun k => g (ix2 0 k)) k := by
  unfold k0_pay1
  pointwise
  rfl

/-- A block of keys. -/
theorem pay2_apply (x : Vec Ideal S1x256x2048 .f32) (g : Vec Ideal S1x2048 .f32) (w : Vec Ideal S2048x512 .bf16) (r : Fin 256) (l : Fin 512) :
    k0_pay2 x g w (ix3 0 r l) = lin (rms (fun k => x (ix3 0 r k)) (fun k => g (ix2 0 k))) (fun j l => w (ix2 j l)) l := by
  unfold k0_pay2 lin
  pointwise [dot_S256x2048_S2048x512_S256x512_1_0_0_1_n_n]
  simp only [pay1_apply]

/-- A block of values. -/
theorem pay3_apply (x : Vec Ideal S1x256x2048 .f32) (g : Vec Ideal S1x2048 .f32) (w : Vec Ideal S2048x512 .bf16) (r : Fin 256) (l : Fin 512) :
    k0_pay3 x g w (ix3 0 r l) = lin (rms (fun k => x (ix3 0 r k)) (fun k => g (ix2 0 k))) (fun j l => w (ix2 j l)) l := by
  unfold k0_pay3 lin
  pointwise [dot_S256x2048_S2048x512_S256x512_1_0_0_1_n_n]
  simp only [pay1_apply]

section Out
variable (x0 : Vec Ideal S1x256x2048 .f32) (x1 : Vec Ideal S1x2048 .f32) (x2 x3 : Vec Ideal S2048x512 .bf16)

/-- A whole block of the memory, loaded. -/
theorem ld_x : View.ld x0 r0_0 = x0 :=
  View.ld_unit_zero (S := S1x256x2048) (Val := Elt Ideal) (e := .f32) (funext fun a => by fin_cases a <;> rfl) _ x0

/-- The gain, loaded. -/
theorem ld_g : View.ld x1 r0_1 = x1 :=
  View.ld_unit_zero (S := S1x2048) (Val := Elt Ideal) (e := .f32) (funext fun a => by fin_cases a <;> rfl) _ x1

/-- A projection, loaded. -/
theorem ld_w : View.ld x2 r0_2 = x2 :=
  View.ld_unit_zero (S := S2048x512) (Val := Elt Ideal) (e := .bf16) (funext fun a => by fin_cases a <;> rfl) _ x2

/-- An index of a block, by its coordinates. -/
theorem idx_eta (y : S1x256x512.Idx) : y = ix3 (0 : Fin 1) (y 1) (y 2) := funext fun a => by
  fin_cases a
  · exact Subsingleton.elim (α := Fin 1) _ _
  · rfl
  · rfl

/-- What a point leaves in its block of keys. -/
theorem out4_apply (y : S1x256x512.Idx) :
    out0_4 x0 x1 x2 x3 y = lin (rms (fun k => x0 (ix3 0 (y 1) k)) (fun k => x1 (ix2 0 k))) (fun j l => x2 (ix2 j l)) (y 2) := by
  refine (congrFun (View.canon_unit_zero (S := S1x256x512) (funext fun a => by fin_cases a <;> rfl) _ _) y).trans ?_
  rw [ld_x, ld_g, ld_w]
  exact (congrArg _ (idx_eta y)).trans (pay2_apply x0 x1 x2 (y 1) (y 2))

/-- What a point leaves in its block of values. -/
theorem out5_apply (y : S1x256x512.Idx) :
    out0_5 x0 x1 x2 x3 y = lin (rms (fun k => x0 (ix3 0 (y 1) k)) (fun k => x1 (ix2 0 k))) (fun j l => x3 (ix2 j l)) (y 2) := by
  refine (congrFun (View.canon_unit_zero (S := S1x256x512) (funext fun a => by fin_cases a <;> rfl) _ _) y).trans ?_
  rw [ld_x, ld_g, ld_w]
  exact (congrArg _ (idx_eta y)).trans (pay3_apply x0 x1 x3 (y 1) (y 2))

end Out

/-! ## The arrays -/

variable (m : (ℓ : Loc nD τ sig) → Buf (Elt Ideal) ℓ) (ρ : Dev nD → PrngReg)

/-- Where block 0 of a point lies. -/
theorem idx0 : ∀ t : Fin cfg0.N, win0_0.index t = ![(grid0.coords t 0).val, 0, 0] := by decide +kernel
/-- Where block 1 of a point lies. -/
theorem idx1 : ∀ t : Fin cfg0.N, win0_1.index t = ![0, 0] := by decide +kernel
/-- Where block 2 of a point lies. -/
theorem idx2 : ∀ t : Fin cfg0.N, win0_2.index t = ![0, 0] := by decide +kernel
/-- Where block 3 of a point lies. -/
theorem idx3 : ∀ t : Fin cfg0.N, win0_3.index t = ![0, 0] := by decide +kernel
/-- Where block 4 of a point lies. -/
theorem idx4 : ∀ t : Fin cfg0.N, win0_4.index t = ![(grid0.coords t 0).val, 0, 0] := by decide +kernel
/-- Where block 5 of a point lies. -/
theorem idx5 : ∀ t : Fin cfg0.N, win0_5.index t = ![(grid0.coords t 0).val, 0, 0] := by decide +kernel

/-- The batch entry of a point. -/
def bat (t : Fin cfg0.N) : Fin 16 := ⟨(grid0.coords t 0).val, (grid0.coords t 0).isLt⟩

/-- A point's rows of the memory. -/
theorem x_block (c : Dev nD) (t : Fin cfg0.N) (r : Fin 256) (k : Fin 2048) :
    iblk m c 0 t (ix3 0 r k) = m ((c : Thread nD τ).loc main_arg0) (ix3 (bat t) r k) := by
  blk_ext! [iblk, V, idx0 t, bat]

/-- The gain. -/
theorem g_block (c : Dev nD) (t : Fin cfg0.N) (k : Fin 2048) : iblk m c 1 t (ix2 0 k) = m ((c : Thread nD τ).loc main_arg1) (ix1 k) := by
  blk_ext! [iblk, V, idx1 t]

/-- The projection to keys. -/
theorem wk_block (c : Dev nD) (t : Fin cfg0.N) (j : Fin 2048) (l : Fin 512) :
    iblk m c 2 t (ix2 j l) = m ((c : Thread nD τ).loc main_arg2) (ix2 j l) := by
  blk_ext! [iblk, V, idx2 t]

/-- The projection to values. -/
theorem wv_block (c : Dev nD) (t : Fin cfg0.N) (j : Fin 2048) (l : Fin 512) :
    iblk m c 3 t (ix2 j l) = m ((c : Thread nD τ).loc main_arg3) (ix2 j l) := by
  blk_ext! [iblk, V, idx3 t]

end Cert.MemKvIdeal.Block

namespace Cert.MemKv

/-- A memory's rows, normalised and projected. -/
def projected (x : FVec Ideal MemKvIdeal.S16x256x2048 .f32) (g : FVec Ideal MemKvIdeal.S2048 .f32) (w : FVec Ideal MemKvIdeal.S2048x512 .f32)
    (b : Fin 16) (n : Fin 256) (l : Fin 512) : EReal :=
  lin (rms (fun k => x (ix3 b n k)) (fun k => g (ix1 k))) (fun j l => w (ix2 j l)) l

end Cert.MemKv

namespace Cert.MemKvIdeal.Block

open Cert.MemKvIdeal Cert.MemKvIdeal.Gen
open Cert.MemKv (projected)

variable (m : (ℓ : Loc nD τ sig) → Buf (Elt Ideal) ℓ) (ρ : Dev nD → PrngReg)

/-- The memory's rows under a projection, on the program's own arguments. -/
def rowsAt (c : Dev nD) (w : FVec Ideal S2048x512 .f32) (b : Fin 16) (n : Fin 256) (l : Fin 512) : EReal :=
  projected (m ((c : Thread nD τ).loc main_arg0)) (m ((c : Thread nD τ).loc main_arg1)) w b n l

/-- A point's rows. -/
theorem rows_block (c : Dev nD) (t : Fin cfg0.N) (r : Fin 256) (l : Fin 512) {v : Vec Ideal S2048x512 .bf16} {w : FVec Ideal S2048x512 .f32}
    (hw : ∀ j l, v (ix2 j l) = w (ix2 j l)) :
    lin (rms (fun k => iblk m c 0 t (ix3 0 r k)) (fun k => iblk m c 1 t (ix2 0 k))) (fun j l => v (ix2 j l)) l
      = rowsAt m c w (bat t) r l := by
  unfold rowsAt projected
  simp only [x_block, g_block, hw]

/-- The keys, as an array of the program's. -/
def keysArr (c : Dev nD) : Buf (Elt Ideal) ((c : Thread nD τ).loc main_v3_0) := fun i =>
  rowsAt m c (m ((c : Thread nD τ).loc main_arg2)) (i 0) (i 1) (i 2)

/-- The values. -/
def valsArr (c : Dev nD) : Buf (Elt Ideal) ((c : Thread nD τ).loc main_v3_1) := fun i =>
  rowsAt m c (m ((c : Thread nD τ).loc main_arg3)) (i 0) (i 1) (i 2)

/-- The array of keys after the run. -/
theorem final4 (c : Dev nD) : (dats m 0 c).arrAt 4 cfg0.N = keysArr m c := by
  refine (dats m 0 c).arrAt_eq_of_covers 4 _ (by decide +kernel) fun t hf y => ?_
  refine (congrFun (Value.flushed4 m c t) y).trans ((out4_apply _ _ _ _ _).trans ?_)
  refine (rows_block m c t (y 1) (y 2) (fun j l => wk_block m c t j l)).trans ?_
  have h0 : (y 0 : Nat) < 1 := (y 0).isLt
  have e0 : bat t = (((cfg0.win 4).blk t).view.emb y) 0 := Fin.ext (by blk_simp [idx4 t, bat])
  have e1 : y 1 = (((cfg0.win 4).blk t).view.emb y) 1 := Fin.ext (by blk_simp [idx4 t])
  have e2 : y 2 = (((cfg0.win 4).blk t).view.emb y) 2 := Fin.ext (by blk_simp [idx4 t])
  exact (congrArg (fun b => rowsAt m c (m ((c : Thread nD τ).loc main_arg2)) b (y 1) (y 2)) e0).trans
    ((congrArg (fun n => rowsAt m c (m ((c : Thread nD τ).loc main_arg2)) _ n (y 2)) e1).trans
      (congrArg (fun l => rowsAt m c (m ((c : Thread nD τ).loc main_arg2)) _ _ l) e2))

/-- The array of values after the run. -/
theorem final5 (c : Dev nD) : (dats m 0 c).arrAt 5 cfg0.N = valsArr m c := by
  refine (dats m 0 c).arrAt_eq_of_covers 5 _ (by decide +kernel) fun t hf y => ?_
  refine (congrFun (Value.flushed5 m c t) y).trans ((out5_apply _ _ _ _ _).trans ?_)
  refine (rows_block m c t (y 1) (y 2) (fun j l => wv_block m c t j l)).trans ?_
  have h0 : (y 0 : Nat) < 1 := (y 0).isLt
  have e0 : bat t = (((cfg0.win 5).blk t).view.emb y) 0 := Fin.ext (by blk_simp [idx5 t, bat])
  have e1 : y 1 = (((cfg0.win 5).blk t).view.emb y) 1 := Fin.ext (by blk_simp [idx5 t])
  have e2 : y 2 = (((cfg0.win 5).blk t).view.emb y) 2 := Fin.ext (by blk_simp [idx5 t])
  exact (congrArg (fun b => rowsAt m c (m ((c : Thread nD τ).loc main_arg3)) b (y 1) (y 2)) e0).trans
    ((congrArg (fun n => rowsAt m c (m ((c : Thread nD τ).loc main_arg3)) _ n (y 2)) e1).trans
      (congrArg (fun l => rowsAt m c (m ((c : Thread nD τ).loc main_arg3)) _ _ l) e2))

/-- The program's run: both arrays, and the arguments kept. -/
theorem run : θ_run defs (onTc (τ := τ) (main (F := Ideal))) ⟨m, fun _ => 0, ρ⟩ fun r => ∀ c : Dev nD,
      r.2.mem ((c : Thread nD τ).loc main_v3_0) = keysArr m c
      ∧ r.2.mem ((c : Thread nD τ).loc main_v3_1) = valsArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.MemKvIdeal.Block

namespace Cert.MemKvRefIdeal.Rows

open Cert.MemKvRefIdeal Cert.MemKvRefIdeal.Gen Cert.MemKvRefIdeal.Read
open Cert.MemKv (projected)

variable (x0 : FVec Ideal S16x256x2048 .f32) (x1 : FVec Ideal S2048 .f32) (x2 x3 : FVec Ideal S2048x512 .f32)

/-- The reference's normalised rows. -/
theorem norm_apply (b : Fin 16) (n : Fin 256) (k : Fin 2048) :
    val_main_v12 (F := Ideal) x0 x1 (ix3 b n k) = rms (fun k => x0 (ix3 b n k)) (fun k => x1 (ix1 k)) k := by
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  rfl

/-- The reference's keys. -/
theorem keys_apply (b : Fin 16) (n : Fin 256) (l : Fin 512) : val_main_v13 (F := Ideal) x0 x1 x2 (ix3 b n l) = projected x0 x1 x2 b n l := by
  have hn := norm_apply x0 x1 b n
  unfold val_main_v13 projected lin
  revert hn
  generalize val_main_v12 (F := Ideal) x0 x1 = y
  intro hn
  pointwise [dot_S16x256x2048_S2048x512_S16x256x512_2_0_01_1_n_n]
  simp only [hn]

/-- The reference's values. -/
theorem vals_apply (b : Fin 16) (n : Fin 256) (l : Fin 512) : val_main_v14 (F := Ideal) x0 x1 x3 (ix3 b n l) = projected x0 x1 x3 b n l := by
  have hn := norm_apply x0 x1 b n
  unfold val_main_v14 projected lin
  revert hn
  generalize val_main_v12 (F := Ideal) x0 x1 = y
  intro hn
  pointwise [dot_S16x256x2048_S2048x512_S16x256x512_2_0_01_1_n_n]
  simp only [hn]

end Cert.MemKvRefIdeal.Rows

end
-- ==== Proof.MemKvClaims.lean ====
/- The claims about the memory's keys and values: the frames and the equations with the reference. -/
module

public import proofs.«01_k».proof.Defs
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.MemKv

@[expose] public section

set_option maxRecDepth 16384

noncomputable section

open Idealize.ShloMosaic Idealize.ShloMosaic.TcCoe Idealize.SL.Sem

namespace Cert.MemKvClaims

/-- The frame of the memory's keys and values. -/
theorem frame_P : Cert.quiescent_MemKv := fun m ρ _ => Cert.MemKv.Gen.frame m ρ

/-- Its idealization's frame. -/
theorem frame_PI : Cert.quiescent_MemKvIdeal := fun m ρ _ => Cert.MemKvIdeal.Gen.frame m ρ

/-- The reference's frame. -/
theorem frame_RI : Cert.quiescent_MemKvRefIdeal := fun m ρ _ =>
  (θ_run Cert.MemKvRefIdeal.defs _ _).mono
    (fun r h => ⟨fun c => (h c).2.2, Idealize.ShloMosaic.sem_eq_zero_of_no_sems (by decide) r.2⟩) (Cert.MemKvRefIdeal.Value.run m ρ)

/-- The idealization changes nothing. -/
theorem preserves : Cert.preserves_MemKv_MemKvIdeal := trivial

/-- An index by its coordinates. -/
theorem idx_eta (i : Cert.MemKvRefIdeal.S16x256x512.Idx) : i = ix3 (i 0) (i 1) (i 2) := funext fun a => by fin_cases a <;> rfl

/-- The kernel's keys and values are the reference's. -/
theorem algebraic : Cert.algebraic_MemKvIdeal_MemKvRefIdeal := by
  intro m ρ m' ρ' _ hagree
  refine ⟨fun c => Cert.MemKvIdeal.Block.keysArr m c, fun c => Cert.MemKvIdeal.Block.valsArr m c, Cert.MemKvIdeal.Block.run m ρ, ?_⟩
  refine (θ_run Cert.MemKvRefIdeal.defs _ _).mono (fun _ h c => ⟨(h c).1.trans ?_, (h c).2.1.trans ?_, (h c).2.2⟩)
    (Cert.MemKvRefIdeal.Value.run m' ρ')
  · refine (Cert.MemKvRefIdeal.Read.val_main_v13_eq _ _ _).trans ?_
    obtain ⟨h0, h1, h2, h3⟩ := hagree c
    rw [h0, h1, h2]
    funext i
    exact (congrArg _ (idx_eta i)).trans (Cert.MemKvRefIdeal.Rows.keys_apply _ _ _ (i 0) (i 1) (i 2))
  · refine (Cert.MemKvRefIdeal.Read.val_main_v14_eq _ _ _).trans ?_
    obtain ⟨h0, h1, h2, h3⟩ := hagree c
    rw [h0, h1, h3]
    funext i
    exact (congrArg _ (idx_eta i)).trans (Cert.MemKvRefIdeal.Rows.vals_apply _ _ _ (i 0) (i 1) (i 2))

end Cert.MemKvClaims

end
-- ==== Proof.MidBlock.lean ====
/- What one block of the middle kernel computes, read at an index over the extended reals, row by row. -/
module

public import proofs.«01_k».proof.Proof.Gen.MidIdeal.Skeleton
public import proofs.«01_k».proof.Proof.RowMath
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.MidIdeal.Block

open Cert.MidIdeal Cert.MidIdeal.Gen
open Cert.RowMath

/-- The rows after the mixers. -/
theorem pay4_apply (x : Vec Ideal S1x256x2048 .f32) (u v : Vec Ideal S1x256x1024 .f32) (a b : Vec Ideal S1024x2048 .bf16) (W : Weights)
    (ha : ∀ (j : Fin 1024) k, a (ix2 j k) = W.wo ⟨j.val, by omega⟩ k) (hb : ∀ (j : Fin 1024) k, b (ix2 j k) = W.wo ⟨1024 + j.val, by omega⟩ k)
    (r : Fin 256) (k : Fin 2048) :
    k0_pay4 x u a v b (ix2 r k) = after W (fun k => x (ix3 0 r k)) (fun j => u (ix3 0 r j)) (fun j => v (ix3 0 r j)) k := by
  unfold k0_pay4 after
  pointwise [dot_S256x1024_S1024x2048_S256x2048_1_0_0_1_n_n]
  simp only [ha, hb]

/-- The queries of the rows. -/
theorem pay5_apply (x : Vec Ideal S1x256x2048 .f32) (u v : Vec Ideal S1x256x1024 .f32) (a b : Vec Ideal S1024x2048 .bf16)
    (g : Vec Ideal S1x2048 .f32) (w : Vec Ideal S2048x512 .bf16) (r : Fin 256) (l : Fin 512) :
    k0_pay5 x u a v b g w (ix2 r l)
      = lin (rms (fun k => k0_pay4 x u a v b (ix2 r k)) (fun k => g (ix2 0 k))) (fun j l => w (ix2 j l)) l := by
  unfold k0_pay5
  pointwise [dot_S256x2048_S2048x512_S256x512_1_0_0_1_n_n]
  rfl

/-- The memory's keys, as a head reads them. -/
theorem pay6_apply (x : Vec Ideal S1x256x512 .f32) (n : Fin 256) (l : Fin 512) : k0_pay6 x (ix2 n l) = x (ix3 0 n l) := by
  unfold k0_pay6
  pointwise

/-- The memory's values. -/
theorem pay7_apply (x : Vec Ideal S1x256x512 .f32) (n : Fin 256) (l : Fin 512) : k0_pay7 x (ix2 n l) = x (ix3 0 n l) := by
  unfold k0_pay7
  pointwise

/-- The first head's lanes. -/
theorem pay8_apply (q : FVec Ideal S256x512 .f32) (mk mv : Vec Ideal S1x256x512 .f32) (r : Fin 256) (d : Fin 128) :
    k0_pay8 q mk mv (ix2 r d)
      = cross (fun l => q (ix2 r l)) (fun n l => mk (ix3 0 n l)) (fun n l => mv (ix3 0 n l)) ⟨d.val, by omega⟩ := by
  rw [cross_at _ _ _ 0 (by omega) (by omega) _ (Nat.zero_le _) (by simp)]
  unfold k0_pay8 soft top score
  pointwise [dot_S256x128_S256x128_S256x256_1_1_0_0_n_n, dot_S256x256_S256x128_S256x128_1_0_0_1_n_n]
  simp only [pay6_apply, pay7_apply, Nat.zero_add]

/-- The second head's lanes. -/
theorem pay9_apply (q : FVec Ideal S256x512 .f32) (mk mv : Vec Ideal S1x256x512 .f32) (r : Fin 256) (d : Fin 128) :
    k0_pay9 q mk mv (ix2 r d)
      = cross (fun l => q (ix2 r l)) (fun n l => mk (ix3 0 n l)) (fun n l => mv (ix3 0 n l)) ⟨128 + d.val, by omega⟩ := by
  rw [cross_at _ _ _ 128 (by omega) (by omega) _ (by simp) (Nat.add_lt_add_left d.isLt 128)]
  unfold k0_pay9 soft top score
  pointwise [dot_S256x128_S256x128_S256x256_1_1_0_0_n_n, dot_S256x256_S256x128_S256x128_1_0_0_1_n_n]
  simp only [pay6_apply, pay7_apply]

/-- The third head's queries. -/
theorem pay10_apply (q : FVec Ideal S256x512 .f32) (r : Fin 256) (d : Fin 128) : k0_pay10 q (ix2 r d) = q (ix2 r ⟨256 + d.val, by omega⟩) := by
  unfold k0_pay10
  pointwise

/-- The third head's keys. -/
theorem pay11_apply (mk : Vec Ideal S1x256x512 .f32) (n : Fin 256) (d : Fin 128) :
    k0_pay11 mk (ix2 n d) = mk (ix3 0 n ⟨256 + d.val, by omega⟩) := by
  unfold k0_pay11
  pointwise
  exact pay6_apply _ _ _

/-- The four heads' lanes times the projection, added to the row. -/
theorem pay12_apply (h : FVec Ideal S256x2048 .f32) (q : FVec Ideal S256x512 .f32) (mk mv : Vec Ideal S1x256x512 .f32)
    (w : Vec Ideal S512x2048 .bf16) (r : Fin 256) (k : Fin 2048) :
    k0_pay12 h q (k0_pay6 mk) (k0_pay7 mv) (k0_pay8 q mk mv) (k0_pay9 q mk mv) (k0_pay10 q) (k0_pay11 mk) w (ix2 r k)
      = h (ix2 r k) + lin (cross (fun l => q (ix2 r l)) (fun n l => mk (ix3 0 n l)) (fun n l => mv (ix3 0 n l))) (fun j k => w (ix2 j k)) k := by
  unfold k0_pay12 lin
  pointwise [dot_S256x512_S512x2048_S256x2048_1_0_0_1_n_n, dot_S256x128_S256x128_S256x256_1_1_0_0_n_n,
    dot_S256x256_S256x128_S256x128_1_0_0_1_n_n]
  refine congrArg₂ (· + ·) rfl (Finset.sum_congr rfl fun l _ => congrArg₂ (· * ·) ?_ rfl)
  have hl := l.isLt
  by_cases h1 : l.val < 128
  · exact (dif_pos h1).trans (pay8_apply q mk mv r ⟨l.val, h1⟩)
  refine (dif_neg h1).trans ?_
  by_cases h2 : l.val - 128 < 128
  · refine (dif_pos h2).trans ((pay9_apply q mk mv r ⟨l.val - 128, h2⟩).trans (congrArg _ (Fin.ext ?_)))
    show 128 + (l.val - 128) = l.val
    omega
  refine (dif_neg h2).trans ?_
  by_cases h3 : l.val - 128 - 128 < 128
  · refine (dif_pos h3).trans ?_
    rw [cross_at _ _ _ 256 (by omega) (by omega) l (by omega) (by omega)]
    have e : 256 + (l.val - 128 - 128) = l.val := by omega
    unfold soft top score
    simp only [pay7_apply, pay10_apply, pay11_apply, e]
  · refine (dif_neg h3).trans ?_
    rw [cross_at _ _ _ 384 (by omega) (by omega) l (by omega) (by omega)]
    have e : 384 + (l.val - 128 - 128 - 128) = l.val := by omega
    unfold soft top score
    simp only [pay6_apply, pay7_apply, e]

/-- The normalised rows. -/
theorem pay1_apply (h : FVec Ideal S256x2048 .f32) (g : Vec Ideal S1x2048 .f32) (r : Fin 256) (k : Fin 2048) :
    k0_pay1 h g (ix2 r k) = rms (fun k => h (ix2 r k)) (fun k => g (ix2 0 k)) k := by
  unfold k0_pay1
  pointwise
  rfl

/-- The normalised rows, as stored. -/
theorem pay2_apply (h : FVec Ideal S256x2048 .f32) (g : Vec Ideal S1x2048 .f32) (r : Fin 256) (k : Fin 2048) :
    k0_pay2 h g (ix3 0 r k) = rms (fun k => h (ix2 r k)) (fun k => g (ix2 0 k)) k := by
  unfold k0_pay2
  pointwise
  exact pay1_apply h g r k

/-- The experts' queries, as stored. -/
theorem pay3_apply (h : FVec Ideal S256x2048 .f32) (g : Vec Ideal S1x2048 .f32) (w : Vec Ideal S2048x2048 .bf16) (r : Fin 256) (k : Fin 2048) :
    k0_pay3 h g w (ix3 0 r k) = lin (rms (fun k => h (ix2 r k)) (fun k => g (ix2 0 k))) (fun j k => w (ix2 j k)) k := by
  unfold k0_pay3 lin
  pointwise [dot_S256x2048_S2048x2048_S256x2048_1_0_0_1_n_n]
  simp only [pay1_apply]

end Cert.MidIdeal.Block

end
-- ==== Proof.MidArray.lean ====
/- The middle kernel's arrays after its run: every block read at an index, and the arrays row by row. -/
module

public import proofs.«01_k».proof.Proof.Gen.MidIdeal.Value
public import proofs.«01_k».proof.Proof.MidBlock
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.MidIdeal.Block

open Cert.MidIdeal Cert.MidIdeal.Gen
open Cert.RowMath

/-! ## A block from the blocks it is computed of -/

section Out
variable (x0 : Vec Ideal S1x256x2048 .f32) (x1 x2 : Vec Ideal S1x256x1024 .f32) (x3 : Vec Ideal S2048x2048 .bf16) (x4 : Vec Ideal S1x2048 .f32)
  (x5 : Vec Ideal S2048x512 .bf16) (x6 x7 : Vec Ideal S1x256x512 .f32) (x8 : Vec Ideal S512x2048 .bf16) (x9 : Vec Ideal S1x2048 .f32)
  (x10 : Vec Ideal S2048x2048 .bf16)

/-- The weights, from their blocks. -/
def weights : Weights where
  wo j k := x3 (ix2 j k)
  gc k := x4 (ix2 0 k)
  wcq j l := x5 (ix2 j l)
  keys n l := x6 (ix3 0 n l)
  vals n l := x7 (ix3 0 n l)
  wco l k := x8 (ix2 l k)
  gf k := x9 (ix2 0 k)
  wq j k := x10 (ix2 j k)

/-- A whole block, loaded. -/
theorem ld_x (X : Vec Ideal S1x256x2048 .f32) : View.ld X r0_0 = X := View.ld_unit_zero (S := S1x256x2048) (Val := Elt Ideal) (e := .f32) (funext fun a => by fin_cases a <;> rfl) _ X

/-- A whole block, loaded. -/
theorem ld_u (X : Vec Ideal S1x256x1024 .f32) : View.ld X r0_1 = X := View.ld_unit_zero (S := S1x256x1024) (Val := Elt Ideal) (e := .f32) (funext fun a => by fin_cases a <;> rfl) _ X

/-- A whole block, loaded. -/
theorem ld_g (X : Vec Ideal S1x2048 .f32) : View.ld X r0_4 = X := View.ld_unit_zero (S := S1x2048) (Val := Elt Ideal) (e := .f32) (funext fun a => by fin_cases a <;> rfl) _ X

/-- A whole block, loaded. -/
theorem ld_cq (X : Vec Ideal S2048x512 .bf16) : View.ld X r0_5 = X := View.ld_unit_zero (S := S2048x512) (Val := Elt Ideal) (e := .bf16) (funext fun a => by fin_cases a <;> rfl) _ X

/-- A whole block, loaded. -/
theorem ld_m (X : Vec Ideal S1x256x512 .f32) : View.ld X r0_6 = X := View.ld_unit_zero (S := S1x256x512) (Val := Elt Ideal) (e := .f32) (funext fun a => by fin_cases a <;> rfl) _ X

/-- A whole block, loaded. -/
theorem ld_co (X : Vec Ideal S512x2048 .bf16) : View.ld X r0_7 = X := View.ld_unit_zero (S := S512x2048) (Val := Elt Ideal) (e := .bf16) (funext fun a => by fin_cases a <;> rfl) _ X

/-- A whole block, loaded. -/
theorem ld_q (X : Vec Ideal S2048x2048 .bf16) : View.ld X r0_8 = X := View.ld_unit_zero (S := S2048x2048) (Val := Elt Ideal) (e := .bf16) (funext fun a => by fin_cases a <;> rfl) _ X

/-- The upper half of the projection's rows, loaded. -/
theorem ld_top (j : Fin 1024) (k : Fin 2048) : View.ld x3 r0_2 (ix2 j k) = x3 (ix2 ⟨j.val, by omega⟩ k) :=
  View.ld_unit_apply_of _ _ _ _ _ _ fun a => by fin_cases a <;> simp [ix2]

/-- The lower half. -/
theorem ld_bot (j : Fin 1024) (k : Fin 2048) : View.ld x3 r0_3 (ix2 j k) = x3 (ix2 ⟨1024 + j.val, by omega⟩ k) :=
  View.ld_unit_apply_of _ _ _ _ _ _ fun a => by fin_cases a <;> simp [ix2]

/-- The rows the block leaves. -/
theorem leaves_apply (r : Fin 256) (k : Fin 2048) :
    k0_pay22 x0 x1 x2 x3 x4 x5 x6 x7 x8 x9 x10 (ix2 r k)
      = leaves (weights x3 x4 x5 x6 x7 x8 x9 x10) (fun k => x0 (ix3 0 r k)) (fun j => x1 (ix3 0 r j)) (fun j => x2 (ix3 0 r j)) k := by
  unfold k0_pay22 k0_pay21 k0_pay20 k0_pay19 k0_pay18 k0_pay17 k0_pay16 k0_pay15 k0_pay14
  simp only [ld_x, ld_u, ld_g, ld_cq, ld_m, ld_co]
  rw [pay12_apply]
  simp only [pay5_apply, pay4_apply _ _ _ _ _ (weights x3 x4 x5 x6 x7 x8 x9 x10) (ld_top x3) (ld_bot x3)]
  rfl

/-- The block of the rows. -/
theorem out11_apply (y : S1x256x2048.Idx) :
    out0_11 x0 x1 x2 x3 x4 x5 x6 x7 x8 x9 x10 y
      = leaves (weights x3 x4 x5 x6 x7 x8 x9 x10) (fun k => x0 (ix3 0 (y 1) k)) (fun j => x1 (ix3 0 (y 1) j)) (fun j => x2 (ix3 0 (y 1) j)) (y 2) := by
  refine (congrFun (View.canon_unit_zero (S := S1x256x2048) (funext fun a => by fin_cases a <;> rfl) _ _) y).trans ?_
  rw [show y = ix3 (0 : Fin 1) (y 1) (y 2) from funext fun a => by
    fin_cases a
    · exact Subsingleton.elim (α := Fin 1) _ _
    · rfl
    · rfl]
  unfold k0_pay13
  pointwise
  exact leaves_apply x0 x1 x2 x3 x4 x5 x6 x7 x8 x9 x10 (y 1) (y 2)

/-- The block of the normalised rows. -/
theorem out12_apply (y : S1x256x2048.Idx) :
    out0_12 x0 x1 x2 x3 x4 x5 x6 x7 x8 x9 x10 y
      = normed (weights x3 x4 x5 x6 x7 x8 x9 x10) (fun k => x0 (ix3 0 (y 1) k)) (fun j => x1 (ix3 0 (y 1) j)) (fun j => x2 (ix3 0 (y 1) j)) (y 2) := by
  refine (congrFun (View.canon_unit_zero (S := S1x256x2048) (funext fun a => by fin_cases a <;> rfl) _ _) y).trans ?_
  rw [show y = ix3 (0 : Fin 1) (y 1) (y 2) from funext fun a => by
    fin_cases a
    · exact Subsingleton.elim (α := Fin 1) _ _
    · rfl
    · rfl]
  rw [ld_g]
  exact (pay2_apply _ _ _ _).trans (congrArg (fun h => rms h (fun k => x9 (ix2 0 k)) (y 2))
    (funext fun k => leaves_apply x0 x1 x2 x3 x4 x5 x6 x7 x8 x9 x10 (y 1) k))

/-- The block of the experts' queries. -/
theorem out13_apply (y : S1x256x2048.Idx) :
    out0_13 x0 x1 x2 x3 x4 x5 x6 x7 x8 x9 x10 y
      = queries (weights x3 x4 x5 x6 x7 x8 x9 x10) (fun k => x0 (ix3 0 (y 1) k)) (fun j => x1 (ix3 0 (y 1) j)) (fun j => x2 (ix3 0 (y 1) j)) (y 2) := by
  refine (congrFun (View.canon_unit_zero (S := S1x256x2048) (funext fun a => by fin_cases a <;> rfl) _ _) y).trans ?_
  rw [show y = ix3 (0 : Fin 1) (y 1) (y 2) from funext fun a => by
    fin_cases a
    · exact Subsingleton.elim (α := Fin 1) _ _
    · rfl
    · rfl]
  rw [ld_g, ld_q]
  exact (pay3_apply _ _ _ _ _).trans (congrArg (fun h => lin (rms h (fun k => x9 (ix2 0 k))) (fun j k => x10 (ix2 j k)) (y 2))
    (funext fun k => leaves_apply x0 x1 x2 x3 x4 x5 x6 x7 x8 x9 x10 (y 1) k))

end Out

/-! ## The blocks as stretches of the arrays -/

variable (m : (ℓ : Loc nD τ sig) → Buf (Elt Ideal) ℓ) (ρ : Dev nD → PrngReg)

/-- Where block 0 of a point lies. -/
theorem idx0 : ∀ t : Fin cfg0.N, win0_0.index t = ![(grid0.coords t 0).val, (grid0.coords t 1).val, 0] := by decide +kernel
/-- Where block 1 of a point lies. -/
theorem idx1 : ∀ t : Fin cfg0.N, win0_1.index t = ![(grid0.coords t 0).val, (grid0.coords t 1).val, 0] := by decide +kernel
/-- Where block 2 of a point lies. -/
theorem idx2 : ∀ t : Fin cfg0.N, win0_2.index t = ![(grid0.coords t 0).val, (grid0.coords t 1).val, 0] := by decide +kernel
/-- Where block 3 of a point lies. -/
theorem idx3 : ∀ t : Fin cfg0.N, win0_3.index t = ![0, 0] := by decide +kernel
/-- Where block 4 of a point lies. -/
theorem idx4 : ∀ t : Fin cfg0.N, win0_4.index t = ![0, 0] := by decide +kernel
/-- Where block 5 of a point lies. -/
theorem idx5 : ∀ t : Fin cfg0.N, win0_5.index t = ![0, 0] := by decide +kernel
/-- Where block 6 of a point lies. -/
theorem idx6 : ∀ t : Fin cfg0.N, win0_6.index t = ![(grid0.coords t 0).val, 0, 0] := by decide +kernel
/-- Where block 7 of a point lies. -/
theorem idx7 : ∀ t : Fin cfg0.N, win0_7.index t = ![(grid0.coords t 0).val, 0, 0] := by decide +kernel
/-- Where block 8 of a point lies. -/
theorem idx8 : ∀ t : Fin cfg0.N, win0_8.index t = ![0, 0] := by decide +kernel
/-- Where block 9 of a point lies. -/
theorem idx9 : ∀ t : Fin cfg0.N, win0_9.index t = ![0, 0] := by decide +kernel
/-- Where block 10 of a point lies. -/
theorem idx10 : ∀ t : Fin cfg0.N, win0_10.index t = ![0, 0] := by decide +kernel
/-- Where block 11 of a point lies. -/
theorem idx11 : ∀ t : Fin cfg0.N, win0_11.index t = ![(grid0.coords t 0).val, (grid0.coords t 1).val, 0] := by decide +kernel
/-- Where block 12 of a point lies. -/
theorem idx12 : ∀ t : Fin cfg0.N, win0_12.index t = ![(grid0.coords t 0).val, (grid0.coords t 1).val, 0] := by decide +kernel
/-- Where block 13 of a point lies. -/
theorem idx13 : ∀ t : Fin cfg0.N, win0_13.index t = ![(grid0.coords t 0).val, (grid0.coords t 1).val, 0] := by decide +kernel

/-- The batch entry of a point. -/
def bat (t : Fin cfg0.N) : Fin 16 := ⟨(grid0.coords t 0).val, (grid0.coords t 0).isLt⟩

/-- The token of a point's row. -/
def tok (t : Fin cfg0.N) (r : Fin 256) : Fin 2048 :=
  ⟨256 * (grid0.coords t 1).val + r.val, by have : (grid0.coords t 1).val < 8 := (grid0.coords t 1).isLt; omega⟩

/-- A point's rows. -/
theorem x_block (c : Dev nD) (t : Fin cfg0.N) (r : Fin 256) (k : Fin 2048) :
    iblk m c 0 t (ix3 0 r k) = m ((c : Thread nD τ).loc main_arg0) (ix3 (bat t) (tok t r) k) := by
  blk_ext! [iblk, V, idx0 t, bat, tok]

/-- A point's rows of the convolution. -/
theorem u_block (c : Dev nD) (t : Fin cfg0.N) (r : Fin 256) (k : Fin 1024) :
    iblk m c 1 t (ix3 0 r k) = m ((c : Thread nD τ).loc main_arg1) (ix3 (bat t) (tok t r) k) := by
  blk_ext! [iblk, V, idx1 t, bat, tok]

/-- A point's rows of the attention. -/
theorem v_block (c : Dev nD) (t : Fin cfg0.N) (r : Fin 256) (k : Fin 1024) :
    iblk m c 2 t (ix3 0 r k) = m ((c : Thread nD τ).loc main_arg2) (ix3 (bat t) (tok t r) k) := by
  blk_ext! [iblk, V, idx2 t, bat, tok]

/-- The projection out of the mixers. -/
theorem wo_block (c : Dev nD) (t : Fin cfg0.N) (j k : Fin 2048) : iblk m c 3 t (ix2 j k) = m ((c : Thread nD τ).loc main_arg3) (ix2 j k) := by
  blk_ext! [iblk, V, idx3 t]

/-- The gain before the cross attention. -/
theorem gc_block (c : Dev nD) (t : Fin cfg0.N) (k : Fin 2048) : iblk m c 4 t (ix2 0 k) = m ((c : Thread nD τ).loc main_arg4) (ix1 k) := by
  blk_ext! [iblk, V, idx4 t]

/-- The projection to queries. -/
theorem wcq_block (c : Dev nD) (t : Fin cfg0.N) (j : Fin 2048) (l : Fin 512) :
    iblk m c 5 t (ix2 j l) = m ((c : Thread nD τ).loc main_arg5) (ix2 j l) := by
  blk_ext! [iblk, V, idx5 t]

/-- The memory's keys. -/
theorem mk_block (c : Dev nD) (t : Fin cfg0.N) (n : Fin 256) (l : Fin 512) :
    iblk m c 6 t (ix3 0 n l) = m ((c : Thread nD τ).loc main_arg6) (ix3 (bat t) n l) := by
  blk_ext! [iblk, V, idx6 t, bat]

/-- The memory's values. -/
theorem mv_block (c : Dev nD) (t : Fin cfg0.N) (n : Fin 256) (l : Fin 512) :
    iblk m c 7 t (ix3 0 n l) = m ((c : Thread nD τ).loc main_arg7) (ix3 (bat t) n l) := by
  blk_ext! [iblk, V, idx7 t, bat]

/-- The projection out of the cross attention. -/
theorem wco_block (c : Dev nD) (t : Fin cfg0.N) (l : Fin 512) (k : Fin 2048) :
    iblk m c 8 t (ix2 l k) = m ((c : Thread nD τ).loc main_arg8) (ix2 l k) := by
  blk_ext! [iblk, V, idx8 t]

/-- The gain after it. -/
theorem gf_block (c : Dev nD) (t : Fin cfg0.N) (k : Fin 2048) : iblk m c 9 t (ix2 0 k) = m ((c : Thread nD τ).loc main_arg9) (ix1 k) := by
  blk_ext! [iblk, V, idx9 t]

/-- The projection to the experts' queries. -/
theorem wq_block (c : Dev nD) (t : Fin cfg0.N) (j k : Fin 2048) : iblk m c 10 t (ix2 j k) = m ((c : Thread nD τ).loc main_arg10) (ix2 j k) := by
  blk_ext! [iblk, V, idx10 t]

/-! ## The arrays -/

/-- The weights of a batch entry, from the arrays. -/
def wts (w : FVec Ideal S2048x2048 .f32) (gc : FVec Ideal S2048 .f32) (cq : FVec Ideal S2048x512 .f32) (mk mv : FVec Ideal S16x256x512 .f32)
    (co : FVec Ideal S512x2048 .f32) (gf : FVec Ideal S2048 .f32) (wq : FVec Ideal S2048x2048 .f32) (b : Fin 16) : Weights where
  wo j k := w (ix2 j k)
  gc k := gc (ix1 k)
  wcq j l := cq (ix2 j l)
  keys n l := mk (ix3 b n l)
  vals n l := mv (ix3 b n l)
  wco l k := co (ix2 l k)
  gf k := gf (ix1 k)
  wq j k := wq (ix2 j k)

/-- The weights of a batch entry, as the program finds them. -/
def wtsAt (c : Dev nD) (b : Fin 16) : Weights :=
  wts (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b

/-- A function of a token's rows, from the arrays. -/
def rowsAt (f : Weights → (Fin 2048 → EReal) → (Fin 1024 → EReal) → (Fin 1024 → EReal) → Fin 2048 → EReal) (c : Dev nD) (b : Fin 16)
    (T : Fin 2048) (k : Fin 2048) : EReal :=
  f (wtsAt m c b) (fun k => m ((c : Thread nD τ).loc main_arg0) (ix3 b T k)) (fun j => m ((c : Thread nD τ).loc main_arg1) (ix3 b T j))
    (fun j => m ((c : Thread nD τ).loc main_arg2) (ix3 b T j)) k

/-- The weights a point reads. -/
theorem weights_block (c : Dev nD) (t : Fin cfg0.N) :
    weights (iblk m c 3 t) (iblk m c 4 t) (iblk m c 5 t) (iblk m c 6 t) (iblk m c 7 t) (iblk m c 8 t) (iblk m c 9 t) (iblk m c 10 t)
      = wtsAt m c (bat t) := by
  unfold weights wtsAt wts
  simp only [wo_block, gc_block, wcq_block, mk_block, mv_block, wco_block, gf_block, wq_block]

/-- A function of a point's rows is the arrays' at its tokens. -/
theorem rows_block (f : Weights → (Fin 2048 → EReal) → (Fin 1024 → EReal) → (Fin 1024 → EReal) → Fin 2048 → EReal) (c : Dev nD)
    (t : Fin cfg0.N) (r : Fin 256) (k : Fin 2048) :
    f (weights (iblk m c 3 t) (iblk m c 4 t) (iblk m c 5 t) (iblk m c 6 t) (iblk m c 7 t) (iblk m c 8 t) (iblk m c 9 t) (iblk m c 10 t))
        (fun k => iblk m c 0 t (ix3 0 r k)) (fun j => iblk m c 1 t (ix3 0 r j)) (fun j => iblk m c 2 t (ix3 0 r j)) k
      = rowsAt m f c (bat t) (tok t r) k := by
  unfold rowsAt
  rw [weights_block]
  simp only [x_block, u_block, v_block]

/-- The rows the kernel leaves, as an array of the program's. -/
def leavesArr (c : Dev nD) : Buf (Elt Ideal) ((c : Thread nD τ).loc main_v6_0) := fun i => rowsAt m leaves c (i 0) (i 1) (i 2)

/-- The normalised rows. -/
def normedArr (c : Dev nD) : Buf (Elt Ideal) ((c : Thread nD τ).loc main_v6_1) := fun i => rowsAt m normed c (i 0) (i 1) (i 2)

/-- The experts' queries. -/
def queriesArr (c : Dev nD) : Buf (Elt Ideal) ((c : Thread nD τ).loc main_v6_2) := fun i => rowsAt m queries c (i 0) (i 1) (i 2)

/-- The array of window 11 after the run. -/
theorem final11 (c : Dev nD) : (dats m 0 c).arrAt 11 cfg0.N = leavesArr m c := by
  refine (dats m 0 c).arrAt_eq_of_covers 11 _ (by decide +kernel) fun t hf y => ?_
  refine (congrFun (Value.flushed11 m c t) y).trans ((out11_apply _ _ _ _ _ _ _ _ _ _ _ _).trans ((rows_block m leaves c t (y 1) (y 2)).trans ?_))
  have h0 : (y 0 : Nat) < 1 := (y 0).isLt
  have e0 : bat t = (((cfg0.win 11).blk t).view.emb y) 0 := Fin.ext (by blk_simp [idx11 t, bat])
  have e1 : tok t (y 1) = (((cfg0.win 11).blk t).view.emb y) 1 := Fin.ext (Eq.symm (by
    show ((((cfg0.win 11).blk t).view.emb y) 1 : Nat) = 256 * (grid0.coords t 1).val + (y 1).val
    blk_simp [idx11 t]; omega))
  have e2 : y 2 = (((cfg0.win 11).blk t).view.emb y) 2 := Fin.ext (by blk_simp [idx11 t])
  exact (congrArg (fun b => rowsAt m leaves c b (tok t (y 1)) (y 2)) e0).trans
    ((congrArg (fun T => rowsAt m leaves c _ T (y 2)) e1).trans (congrArg (fun k => rowsAt m leaves c _ _ k) e2))

/-- The array of window 12 after the run. -/
theorem final12 (c : Dev nD) : (dats m 0 c).arrAt 12 cfg0.N = normedArr m c := by
  refine (dats m 0 c).arrAt_eq_of_covers 12 _ (by decide +kernel) fun t hf y => ?_
  refine (congrFun (Value.flushed12 m c t) y).trans ((out12_apply _ _ _ _ _ _ _ _ _ _ _ _).trans ((rows_block m normed c t (y 1) (y 2)).trans ?_))
  have h0 : (y 0 : Nat) < 1 := (y 0).isLt
  have e0 : bat t = (((cfg0.win 12).blk t).view.emb y) 0 := Fin.ext (by blk_simp [idx12 t, bat])
  have e1 : tok t (y 1) = (((cfg0.win 12).blk t).view.emb y) 1 := Fin.ext (Eq.symm (by
    show ((((cfg0.win 12).blk t).view.emb y) 1 : Nat) = 256 * (grid0.coords t 1).val + (y 1).val
    blk_simp [idx12 t]; omega))
  have e2 : y 2 = (((cfg0.win 12).blk t).view.emb y) 2 := Fin.ext (by blk_simp [idx12 t])
  exact (congrArg (fun b => rowsAt m normed c b (tok t (y 1)) (y 2)) e0).trans
    ((congrArg (fun T => rowsAt m normed c _ T (y 2)) e1).trans (congrArg (fun k => rowsAt m normed c _ _ k) e2))

/-- The array of window 13 after the run. -/
theorem final13 (c : Dev nD) : (dats m 0 c).arrAt 13 cfg0.N = queriesArr m c := by
  refine (dats m 0 c).arrAt_eq_of_covers 13 _ (by decide +kernel) fun t hf y => ?_
  refine (congrFun (Value.flushed13 m c t) y).trans ((out13_apply _ _ _ _ _ _ _ _ _ _ _ _).trans ((rows_block m queries c t (y 1) (y 2)).trans ?_))
  have h0 : (y 0 : Nat) < 1 := (y 0).isLt
  have e0 : bat t = (((cfg0.win 13).blk t).view.emb y) 0 := Fin.ext (by blk_simp [idx13 t, bat])
  have e1 : tok t (y 1) = (((cfg0.win 13).blk t).view.emb y) 1 := Fin.ext (Eq.symm (by
    show ((((cfg0.win 13).blk t).view.emb y) 1 : Nat) = 256 * (grid0.coords t 1).val + (y 1).val
    blk_simp [idx13 t]; omega))
  have e2 : y 2 = (((cfg0.win 13).blk t).view.emb y) 2 := Fin.ext (by blk_simp [idx13 t])
  exact (congrArg (fun b => rowsAt m queries c b (tok t (y 1)) (y 2)) e0).trans
    ((congrArg (fun T => rowsAt m queries c _ T (y 2)) e1).trans (congrArg (fun k => rowsAt m queries c _ _ k) e2))

/-- The kernel runs: its results are the three arrays, its arguments are kept. -/
theorem run : θ_run defs (onTc (τ := τ) (main (F := Ideal))) ⟨m, fun _ => 0, ρ⟩ fun r => ∀ c : Dev nD,
      r.2.mem ((c : Thread nD τ).loc main_v6_0) = leavesArr m c
      ∧ r.2.mem ((c : Thread nD τ).loc main_v6_1) = normedArr m c
      ∧ r.2.mem ((c : Thread nD τ).loc main_v6_2) = queriesArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final11 m c), (h c).2.1.trans (final12 m c), (h c).2.2.1.trans (final13 m c), (h c).2.2.2⟩)
    (Value.run_blocks m ρ)

end Cert.MidIdeal.Block

end
-- ==== Proof.MidRef.lean ====
/- The middle part's reference read at an index, row by row. -/
module

public import proofs.«01_k».proof.Proof.Gen.MidRefIdeal.Read
public import proofs.«01_k».proof.Proof.RowMath
public import Idealize.ShloMosaic.Lib.ValueIdx
public import Idealize.ShloMosaic.Lib.ValueIdxRank6
public import Idealize.ShloMosaic.Lib.Pointwise

@[expose] public section

set_option maxRecDepth 16384

noncomputable section

open Idealize.ShloMosaic Idealize.ShloMosaic.TcCoe Idealize.SL.Sem

namespace Cert.MidRefIdeal.Rows

open Cert.MidRefIdeal Cert.MidRefIdeal.Gen Cert.MidRefIdeal.Read
open Cert.RowMath

variable (x0 : FVec Ideal S16x2048x2048 .f32) (x1 x2 : FVec Ideal S16x2048x1024 .f32) (x3 : FVec Ideal S2048x2048 .f32)
  (x4 : FVec Ideal S2048 .f32) (x5 : FVec Ideal S2048x512 .f32) (x6 x7 : FVec Ideal S16x256x512 .f32) (x8 : FVec Ideal S512x2048 .f32)
  (x9 : FVec Ideal S2048 .f32) (x10 : FVec Ideal S2048x2048 .f32)

/-- The weights of a batch entry. -/
def wts (b : Fin 16) : Weights where
  wo j k := x3 (ix2 j k)
  gc k := x4 (ix1 k)
  wcq j l := x5 (ix2 j l)
  keys n l := x6 (ix3 b n l)
  vals n l := x7 (ix3 b n l)
  wco l k := x8 (ix2 l k)
  gf k := x9 (ix1 k)
  wq j k := x10 (ix2 j k)

/-- A row after the mixers: the sum over both mixers' lanes is the sum over each. -/
theorem after_apply (b : Fin 16) (T k : Fin 2048) :
    val_main_v2 (F := Ideal) x0 x1 x2 x3 (ix3 b T k)
      = after (wts x3 x4 x5 x6 x7 x8 x9 x10 b) (fun k => x0 (ix3 b T k)) (fun j => x1 (ix3 b T j)) (fun j => x2 (ix3 b T j)) k := by
  unfold val_main_v2 val_main_v1 val_main_v0 after
  pointwise [dot_S16x2048x2048_S2048x2048_S16x2048x2048_2_0_01_1_n_n]
  exact (add_assoc _ _ _).symm

/-- A row over its root mean square, before the cross attention. -/
theorem norm_apply (b : Fin 16) (T k : Fin 2048) :
    val_main_v15 (F := Ideal) x0 x1 x2 x3 x4 (ix3 b T k)
      = rms (fun k => val_main_v2 (F := Ideal) x0 x1 x2 x3 (ix3 b T k)) (fun k => x4 (ix1 k)) k := by
  unfold val_main_v15 val_main_v14 val_main_v13 val_main_v12 val_main_v11 val_main_v10 val_main_v9 val_main_v8 val_main_v7 val_main_v6
    val_main_v5 val_main_v4 val_main_v3 val_main_cst val_main_cst_0 val_main_cst_1
  generalize val_main_v2 (F := Ideal) x0 x1 x2 x3 = y
  pointwise
  rfl

/-- The queries of a row. -/
def query (b : Fin 16) (T : Fin 2048) : Fin 512 → EReal :=
  lin (rms (fun k => val_main_v2 (F := Ideal) x0 x1 x2 x3 (ix3 b T k)) (fun k => x4 (ix1 k))) (fun j l => x5 (ix2 j l))

/-- A head's scores. -/
theorem scores_apply (b : Fin 16) (h : Fin 4) (T : Fin 2048) (n : Fin 256) :
    val_main_v22 (F := Ideal) x0 x1 x2 x3 x4 x5 x6 (ix4 b h T n)
      = score (query x0 x1 x2 x3 x4 x5 b T) (fun n l => x6 (ix3 b n l)) (128 * h.val) (by omega) n := by
  have hq := norm_apply x0 x1 x2 x3 x4 b T
  unfold val_main_v22 val_main_v21 val_main_v20 val_main_v19 val_main_v18 val_main_v16 val_main_cst_2
  unfold query lin score
  revert hq
  generalize val_main_v15 (F := Ideal) x0 x1 x2 x3 x4 = y
  intro hq
  pointwise [dot_S16x2048x2048_S2048x512_S16x2048x512_2_0_01_1_n_n, dot_S16x2048x4x128_S16x256x4x128_S16x4x2048x256_3_3_1_1_02_02]
  simp only [hq, Nat.mul_comm 128]

/-- The last axis dropped. -/
theorem drop3 : S16x4x2048x256.Reduces [3] S16x4x2048 := by decide

/-- The index of a score over its row's. -/
theorem lift3 (b : Fin 16) (h : Fin 4) (T : Fin 2048) (n : Fin 256) : drop3.lift (ix3 b h T) n = ix4 b h T n :=
  funext fun a => by fin_cases a <;> rfl

/-- The rows' largest elements. -/
def largest (y : FVec Ideal S16x4x2048x256 .f32) : FVec Ideal S16x4x2048 .f32 :=
  Host.reduce FloatOps.maximumf y (constant S_ .f32 0xFF800000#32) reducesTo_S16x4x2048x256_S16x4x2048_d3 h_S_

/-- A row's largest element. -/
theorem largest_apply (y : FVec Ideal S16x4x2048x256 .f32) (b : Fin 16) (h : Fin 4) (T : Fin 2048) :
    largest y (ix3 b h T) = top (fun n => y (ix4 b h T n)) := by
  refine (Host.reduce_eq_fold_single _ y _ reducesTo_S16x4x2048x256_S16x4x2048_d3 drop3 h_S_ (ix3 b h T)).trans ?_
  exact congrArg ((Finset.univ : Finset (Fin 256)).fold max (Ideal.ofBits .f32 0xFF800000#32))
    (funext fun n => congrArg y (lift3 b h T n))

/-- A row's largest element, or −∞. -/
theorem floor_apply (z : FVec Ideal S16x4x2048 .f32) (b : Fin 16) (h : Fin 4) (T : Fin 2048) :
    maximumf (val_main_v24 (F := Ideal)) z (ix3 b h T) = max (Ideal.ofBits .f32 0xFF800000#32) (z (ix3 b h T)) := by
  unfold val_main_v24 val_main_cst_4
  pointwise

/-- Exponentials of rows less a number each. -/
theorem less_apply (y : FVec Ideal S16x4x2048x256 .f32) (z : FVec Ideal S16x4x2048 .f32) (b : Fin 16) (h : Fin 4) (T : Fin 2048)
    (n : Fin 256) :
    Host.exp (F := Ideal) (subf y (broadcastInDim S16x4x2048x256 ![0, 1, 2, 3] bcast_S16x4x2048x1_S16x4x2048x256_0_1_2_3
        (broadcastInDim S16x4x2048x1 ![0, 1, 2] bcast_S16x4x2048_S16x4x2048x1_0_1_2 z))) (ix4 b h T n)
      = Ideal.exp (y (ix4 b h T n) - z (ix3 b h T)) := by
  pointwise

/-- Rows over their sums. -/
theorem share_apply (z : FVec Ideal S16x4x2048x256 .f32) (b : Fin 16) (h : Fin 4) (T : Fin 2048) (n : Fin 256) :
    Host.divf (F := Ideal) z (broadcastInDim S16x4x2048x256 ![0, 1, 2, 3] bcast_S16x4x2048x1_S16x4x2048x256_0_1_2_3
        (broadcastInDim S16x4x2048x1 ![0, 1, 2] bcast_S16x4x2048_S16x4x2048x1_0_1_2
          (Host.reduceAdd z (constant S_ .f32 0x00000000#32) reducesTo_S16x4x2048x256_S16x4x2048_d3 h_S_))) (ix4 b h T n)
      = Ideal.div (z (ix4 b h T n)) (∑ j, z (ix4 b h T j)) := by
  pointwise

/-- A head's largest score. -/
theorem top_apply (b : Fin 16) (h : Fin 4) (T : Fin 2048) :
    val_main_v25 (F := Ideal) x0 x1 x2 x3 x4 x5 x6 (ix3 b h T)
      = top (fun n => val_main_v22 (F := Ideal) x0 x1 x2 x3 x4 x5 x6 (ix4 b h T n)) := by
  have he : val_main_v23 (F := Ideal) x0 x1 x2 x3 x4 x5 x6 = largest (val_main_v22 (F := Ideal) x0 x1 x2 x3 x4 x5 x6) := rfl
  unfold val_main_v25
  rw [floor_apply, he, largest_apply, max_top]

/-- A head's exponentials. -/
theorem exps_apply (b : Fin 16) (h : Fin 4) (T : Fin 2048) (n : Fin 256) :
    val_main_v29 (F := Ideal) x0 x1 x2 x3 x4 x5 x6 (ix4 b h T n)
      = Ideal.exp (val_main_v22 (F := Ideal) x0 x1 x2 x3 x4 x5 x6 (ix4 b h T n)
          - top (fun n => val_main_v22 (F := Ideal) x0 x1 x2 x3 x4 x5 x6 (ix4 b h T n))) := by
  rw [← top_apply]
  unfold val_main_v29 val_main_v28 val_main_v27 val_main_v26
  exact less_apply _ _ b h T n

/-- A head's weights. -/
theorem soft_apply (b : Fin 16) (h : Fin 4) (T : Fin 2048) (n : Fin 256) :
    val_main_v33 (F := Ideal) x0 x1 x2 x3 x4 x5 x6 (ix4 b h T n)
      = soft (fun n => val_main_v22 (F := Ideal) x0 x1 x2 x3 x4 x5 x6 (ix4 b h T n)) n := by
  unfold val_main_v33 val_main_v32 val_main_v31 val_main_v30 val_main_cst_5
  refine (share_apply _ b h T n).trans ?_
  unfold soft
  simp only [exps_apply]

/-- The four heads' lanes. -/
theorem cross_apply (b : Fin 16) (T : Fin 2048) (l : Fin 512) :
    val_main_v36 (F := Ideal) x0 x1 x2 x3 x4 x5 x6 x7 (ix3 b T l)
      = cross (query x0 x1 x2 x3 x4 x5 b T) (fun n l => x6 (ix3 b n l)) (fun n l => x7 (ix3 b n l)) l := by
  have hw := soft_apply x0 x1 x2 x3 x4 x5 x6 b ⟨l.val / 128, by omega⟩ T
  simp only [scores_apply] at hw
  unfold val_main_v36 val_main_v35 val_main_v34 val_main_v17 cross
  revert hw
  generalize val_main_v33 (F := Ideal) x0 x1 x2 x3 x4 x5 x6 = y
  intro hw
  pointwise [dot_S16x256x4x128_S16x4x2048x256_S16x4x128x2048_1_3_3_2_02_01]
  exact Finset.sum_congr rfl fun n _ => (mul_comm _ _).trans (congrArg₂ (· * ·) (hw n) rfl)

/-- The rows the middle part leaves. -/
theorem leaves_apply (b : Fin 16) (T k : Fin 2048) :
    val_main_v38 (F := Ideal) x0 x1 x2 x3 x4 x5 x6 x7 x8 (ix3 b T k)
      = leaves (wts x3 x4 x5 x6 x7 x8 x9 x10 b) (fun k => x0 (ix3 b T k)) (fun j => x1 (ix3 b T j)) (fun j => x2 (ix3 b T j)) k := by
  have hc := cross_apply x0 x1 x2 x3 x4 x5 x6 x7 b T
  have ha := after_apply x0 x1 x2 x3 x4 x5 x6 x7 x8 x9 x10 b T
  unfold query at hc
  unfold val_main_v38 val_main_v37 leaves attend
  revert hc ha
  generalize val_main_v36 (F := Ideal) x0 x1 x2 x3 x4 x5 x6 x7 = y
  generalize val_main_v2 (F := Ideal) x0 x1 x2 x3 = z
  intro hc ha
  pointwise [dot_S16x2048x512_S512x2048_S16x2048x2048_2_0_01_1_n_n]
  simp only [hc, ha]
  rfl

/-- The rows it leaves, normalised. -/
theorem normed_apply (b : Fin 16) (T k : Fin 2048) :
    val_main_v51 (F := Ideal) x0 x1 x2 x3 x4 x5 x6 x7 x8 x9 (ix3 b T k)
      = normed (wts x3 x4 x5 x6 x7 x8 x9 x10 b) (fun k => x0 (ix3 b T k)) (fun j => x1 (ix3 b T j)) (fun j => x2 (ix3 b T j)) k := by
  have hl := leaves_apply x0 x1 x2 x3 x4 x5 x6 x7 x8 x9 x10 b T
  unfold val_main_v51 val_main_v50 val_main_v49 val_main_v48 val_main_v47 val_main_v46 val_main_v45 val_main_v44 val_main_v43 val_main_v42
    val_main_v41 val_main_v40 val_main_v39 val_main_cst_6 val_main_cst_7 val_main_cst_8
  unfold normed rms
  revert hl
  generalize val_main_v38 (F := Ideal) x0 x1 x2 x3 x4 x5 x6 x7 x8 = y
  intro hl
  pointwise
  simp only [hl]
  rfl

/-- The normalised rows, as the reference returns them. -/
theorem normed_result (b : Fin 16) (T k : Fin 2048) :
    val_main_v52 (F := Ideal) x0 x1 x2 x3 x4 x5 x6 x7 x8 x9 (ix3 b T k)
      = normed (wts x3 x4 x5 x6 x7 x8 x9 x10 b) (fun k => x0 (ix3 b T k)) (fun j => x1 (ix3 b T j)) (fun j => x2 (ix3 b T j)) k := by
  have hn := normed_apply x0 x1 x2 x3 x4 x5 x6 x7 x8 x9 x10 b T
  unfold val_main_v52
  revert hn
  generalize val_main_v51 (F := Ideal) x0 x1 x2 x3 x4 x5 x6 x7 x8 x9 = y
  intro hn
  pointwise
  exact hn k

/-- The experts' queries. -/
theorem queries_apply (b : Fin 16) (T k : Fin 2048) :
    val_main_v53 (F := Ideal) x0 x1 x2 x3 x4 x5 x6 x7 x8 x9 x10 (ix3 b T k)
      = queries (wts x3 x4 x5 x6 x7 x8 x9 x10 b) (fun k => x0 (ix3 b T k)) (fun j => x1 (ix3 b T j)) (fun j => x2 (ix3 b T j)) k := by
  have hn := normed_apply x0 x1 x2 x3 x4 x5 x6 x7 x8 x9 x10 b T
  unfold val_main_v53 queries lin
  revert hn
  generalize val_main_v51 (F := Ideal) x0 x1 x2 x3 x4 x5 x6 x7 x8 x9 = y
  intro hn
  pointwise [dot_S16x2048x2048_S2048x2048_S16x2048x2048_2_0_01_1_n_n]
  simp only [hn]
  rfl

end Cert.MidRefIdeal.Rows

end
-- ==== Proof.MidClaims.lean ====
/- The claims about the middle part of a layer: its frames and the equations with the reference. -/
module

public import proofs.«01_k».proof.Defs
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import proofs.«01_k».proof.Proof.MidArray
public import proofs.«01_k».proof.Proof.MidRef

@[expose] public section

set_option maxRecDepth 16384

noncomputable section

open Idealize.ShloMosaic Idealize.ShloMosaic.TcCoe Idealize.SL.Sem

namespace Cert.MidClaims

/-- The frame of the middle part. -/
theorem frame_P : Cert.quiescent_Mid := fun m ρ _ => Cert.Mid.Gen.frame m ρ

/-- Its idealization's frame. -/
theorem frame_PI : Cert.quiescent_MidIdeal := fun m ρ _ => Cert.MidIdeal.Gen.frame m ρ

/-- The reference's frame. -/
theorem frame_RI : Cert.quiescent_MidRefIdeal := fun m ρ _ =>
  (θ_run Cert.MidRefIdeal.defs _ _).mono
    (fun r h => ⟨fun c => (h c).2.2.2, Idealize.ShloMosaic.sem_eq_zero_of_no_sems (by decide) r.2⟩) (Cert.MidRefIdeal.Value.run m ρ)

/-- The idealization changes nothing. -/
theorem preserves : Cert.preserves_Mid_MidIdeal := trivial

/-- An index by its coordinates. -/
theorem idx_eta (i : Cert.MidRefIdeal.S16x2048x2048.Idx) : i = ix3 (i 0) (i 1) (i 2) := funext fun a => by fin_cases a <;> rfl

/-- The kernel's three results are the reference's: the rows, their normalised form, and the experts' queries. -/
theorem algebraic : Cert.algebraic_MidIdeal_MidRefIdeal := by
  intro m ρ m' ρ' _ hagree
  refine ⟨fun c => Cert.MidIdeal.Block.leavesArr m c, fun c => Cert.MidIdeal.Block.normedArr m c,
    fun c => Cert.MidIdeal.Block.queriesArr m c, Cert.MidIdeal.Block.run m ρ, ?_⟩
  refine (θ_run Cert.MidRefIdeal.defs _ _).mono
    (fun _ h c => ⟨(h c).1.trans ?_, (h c).2.1.trans ?_, (h c).2.2.1.trans ?_, (h c).2.2.2⟩) (Cert.MidRefIdeal.Value.run m' ρ')
  · obtain ⟨h0, h1, h2, h3, h4, h5, h6, h7, h8, h9, h10⟩ := hagree c
    rw [Cert.MidRefIdeal.Read.val_main_v38_eq m' c, h0, h1, h2, h3, h4, h5, h6, h7, h8]
    funext i
    refine (congrArg _ (idx_eta i)).trans ?_
    exact Cert.MidRefIdeal.Rows.leaves_apply _ _ _ _ _ _ _ _ _ (m ((c.tc : Thread Cert.MidIdeal.nD Cert.MidIdeal.τ).loc Cert.MidIdeal.main_arg9)) (m ((c.tc : Thread Cert.MidIdeal.nD Cert.MidIdeal.τ).loc Cert.MidIdeal.main_arg10)) (i 0) (i 1) (i 2)
  · obtain ⟨h0, h1, h2, h3, h4, h5, h6, h7, h8, h9, h10⟩ := hagree c
    rw [Cert.MidRefIdeal.Read.val_main_v52_eq m' c, h0, h1, h2, h3, h4, h5, h6, h7, h8, h9]
    funext i
    refine (congrArg _ (idx_eta i)).trans ?_
    exact Cert.MidRefIdeal.Rows.normed_result _ _ _ _ _ _ _ _ _ _ (m ((c.tc : Thread Cert.MidIdeal.nD Cert.MidIdeal.τ).loc Cert.MidIdeal.main_arg10)) (i 0) (i 1) (i 2)
  · obtain ⟨h0, h1, h2, h3, h4, h5, h6, h7, h8, h9, h10⟩ := hagree c
    rw [Cert.MidRefIdeal.Read.val_main_v53_eq m' c, h0, h1, h2, h3, h4, h5, h6, h7, h8, h9, h10]
    funext i
    refine (congrArg _ (idx_eta i)).trans ?_
    exact Cert.MidRefIdeal.Rows.queries_apply _ _ _ _ _ _ _ _ _ _ _ (i 0) (i 1) (i 2)

end Cert.MidClaims

end
-- ==== Proof.lean ====
module

public import proofs.«01_k».proof.Defs
public import proofs.«01_k».proof.Proof.AttnClaims
public import proofs.«01_k».proof.Proof.InProjClaims
public import proofs.«01_k».proof.Proof.MemKvClaims
public import proofs.«01_k».proof.Proof.MidClaims

@[expose] public section

noncomputable section

namespace Cert.Proof

/-- Every claim of the certificate. -/
theorem claim : Cert.Claim :=
  ⟨Cert.Attn.Gen.facts, Cert.AttnIdeal.Gen.facts, Cert.AttnRefIdeal.Gen.facts,
    Cert.InProj.Gen.facts, Cert.InProjIdeal.Gen.facts, Cert.InProjRefIdeal.Gen.facts,
    Cert.MemKv.Gen.facts, Cert.MemKvIdeal.Gen.facts, Cert.MemKvRefIdeal.Gen.facts,
    Cert.Mid.Gen.facts, Cert.MidIdeal.Gen.facts, Cert.MidRefIdeal.Gen.facts,
    Cert.AttnClaims.pre_facts,
    Cert.AttnClaims.frame_P, Cert.AttnClaims.frame_PI, Cert.AttnClaims.frame_PI_pre (hP := Cert.AttnClaims.pre_facts),
    Cert.AttnClaims.frame_RI, Cert.AttnClaims.frame_RI_pre (hP := Cert.AttnClaims.pre_facts),
    Cert.InProjClaims.frame_P, Cert.InProjClaims.frame_PI, Cert.InProjClaims.frame_RI,
    Cert.MemKvClaims.frame_P, Cert.MemKvClaims.frame_PI, Cert.MemKvClaims.frame_RI,
    Cert.MidClaims.frame_P, Cert.MidClaims.frame_PI, Cert.MidClaims.frame_RI,
    Cert.AttnClaims.preserves, Cert.AttnClaims.algebraic (hP := Cert.AttnClaims.pre_facts),
    Cert.InProjClaims.preserves, Cert.InProjClaims.algebraic,
    Cert.MemKvClaims.preserves, Cert.MemKvClaims.algebraic,
    Cert.MidClaims.preserves, Cert.MidClaims.algebraic⟩

end Cert.Proof

end
